-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes [hPre_sizes : Cert.Pre_sizes.Facts] (m : (ℓ : Loc Cert.KernelIdeal.nD Cert.KernelIdeal.τ Cert.KernelIdeal.sig) → Buf (Elt Ideal) ℓ) : Prop :=
  ∀ c : Dev Cert.KernelIdeal.nD,
    (Cert.Pre_sizes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes [hPre_sizes : Cert.Pre_sizes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sizes [hKernelIdeal : Cert.KernelIdeal.Facts] [hPre_sizes : Cert.Pre_sizes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes [hReferenceIdeal : Cert.ReferenceIdeal.Facts] [hPre_sizes : Cert.Pre_sizes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sizes [hKernelIdeal : Cert.KernelIdeal.Facts] [hReferenceIdeal : Cert.ReferenceIdeal.Facts] [hPre_sizes : Cert.Pre_sizes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes : Cert.Pre_sizes.Facts),
    quiescent_Kernel (hKernel := hKernel)
    ∧ quiescent_KernelIdeal (hKernelIdeal := hKernelIdeal)
    ∧ quiescent_KernelIdeal_pre_sizes (hKernelIdeal := hKernelIdeal) (hPre_sizes := hPre_sizes)
    ∧ quiescent_ReferenceIdeal (hReferenceIdeal := hReferenceIdeal)
    ∧ quiescent_ReferenceIdeal_pre_sizes (hReferenceIdeal := hReferenceIdeal) (hPre_sizes := hPre_sizes)
    ∧ preserves_Kernel_KernelIdeal
    ∧ algebraic_KernelIdeal_ReferenceIdeal_pre_sizes (hKernelIdeal := hKernelIdeal) (hReferenceIdeal := hReferenceIdeal) (hPre_sizes := hPre_sizes)
-- ==== Pre_sizes.lean ====
abbrev S256x2816 : Shape := ⟨2, ![256, 2816]⟩
abbrev S256x1 : Shape := ⟨2, ![256, 1]⟩
abbrev S16 : Shape := ⟨1, ![16]⟩
abbrev S16x2816x2816 : Shape := ⟨3, ![16, 2816, 2816]⟩
abbrev S16x2816 : Shape := ⟨2, ![16, 2816]⟩
abbrev S_ : Shape := ⟨0, ![]⟩

class Facts : Prop where
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel

variable [Facts]

def fn_cumsum_0 {F : FTy → Type} [FloatOps F] (arg0 : IVec S16 32) : IVec S16 32 :=
  let c : IVec S_ 32 := constantI S_ 32 0#32
  let v0 : IVec S_ 32 := broadcastInDim S_ ![] bcast_S_S_ c
  let v1 : IVec S16 32 := (fun x v => Host.reduceWindow IntOp.addi ![16] ![1] ![15] ![0] x v reduceWindows_S16_S16_w16s1p15_0 h_S_) arg0 v0
  v1

def fn_cumsum {F : FTy → Type} [FloatOps F] (arg0 : IVec S16 32) : IVec S16 32 :=
  let v0 : IVec S16 32 := fn_cumsum_0 (F := F) arg0
  v0

def fn {F : FTy → Type} [FloatOps F] (main_arg0 : FVec F S256x2816 .fp8e4m3) (main_arg1 : FVec F S256x1 .f32) (main_arg2 : IVec S16 32) (main_arg3 : FVec F S16x2816x2816 .fp8e4m3) (main_arg4 : FVec F S16x2816 .f32) : IVec S16 1 :=
  let main_c : IVec S_ 32 := constantI S_ 32 0#32
  let main_v0 : IVec S16 32 := broadcastInDim S16 ![] bcast_S_S16 main_c
  let main_v1 : IVec S16 1 := cmpi .sge main_arg2 main_v0
  let main_v2 : IVec S16 32 := fn_cumsum (F := F) main_arg2
  let main_c_0 : IVec S_ 32 := constantI S_ 32 0#32
  let main_v3 : IVec S16 32 := broadcastInDim S16 ![] bcast_S_S16 main_c_0
  let main_v4 : IVec S16 1 := cmpi .sge main_v2 main_v3
  let main_v5 : IVec S16 1 := andi main_v1 main_v4
  main_v5
-- ==== Kernel.lean ====
abbrev S256x2816 : Shape := ⟨2, ![256, 2816]⟩
abbrev S256x1 : Shape := ⟨2, ![256, 1]⟩
abbrev S16 : Shape := ⟨1, ![16]⟩
abbrev S16x2816x2816 : Shape := ⟨3, ![16, 2816, 2816]⟩
abbrev S16x2816 : Shape := ⟨2, ![16, 2816]⟩
abbrev S1x2816x1408 : Shape := ⟨3, ![1, 2816, 1408]⟩
abbrev S1 : Shape := ⟨1, ![1]⟩
abbrev S2816x1408 : Shape := ⟨2, ![2816, 1408]⟩
abbrev S256x1408 : Shape := ⟨2, ![256, 1408]⟩
abbrev S1x1408 : Shape := ⟨2, ![1, 1408]⟩

abbrev nBuf : Space → Nat
  | .hbm => 5
  | .vmem => 6
  | .smem => 1
  | _ => 0

abbrev bufTy : (tb : Table) → Fin (tcTables nBuf tb) → BufTy
  | .hbm, ⟨0, _⟩ => ⟨S256x2816, .fp8e4m3⟩
  | .hbm, ⟨1, _⟩ => ⟨S256x1, .f32⟩
  | .hbm, ⟨2, _⟩ => ⟨S16x2816x2816, .fp8e4m3⟩
  | .hbm, ⟨3, _⟩ => ⟨S16x2816, .f32⟩
  | .hbm, ⟨4, _⟩ => ⟨S256x2816, .bf16⟩
  | .local _ .vmem, ⟨0, _⟩ => ⟨S256x2816, .fp8e4m3⟩
  | .local _ .vmem, ⟨1, _⟩ => ⟨S256x1, .f32⟩
  | .local _ .vmem, ⟨2, _⟩ => ⟨S1x2816x1408, .fp8e4m3⟩
  | .local _ .vmem, ⟨3, _⟩ => ⟨S1x2816x1408, .fp8e4m3⟩
  | .local _ .vmem, ⟨4, _⟩ => ⟨S16x2816, .f32⟩
  | .local _ .vmem, ⟨5, _⟩ => ⟨S256x2816, .bf16⟩
  | .local _ .smem, ⟨0, _⟩ => ⟨S16, .i32⟩
  | _, _ => ⟨S256x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c1408_i32 : BitVec 32 := 1408#32
  let v85 : BitVec 32 := Scalar.muli arg1 c1408_i32
  v85
def k0_off2 (i : grid0.Coords) : Fin 2 → Nat :=
  let arg0 : BitVec 32 := BitVec.ofNat 32 (i 0).val
  let v90 : Index := Scalar.indexCast arg0
  let arg1 : BitVec 32 := BitVec.ofNat 32 (i 1).val
  let c1408_i32 : BitVec 32 := 1408#32
  let v85 : BitVec 32 := Scalar.muli arg1 c1408_i32
  let v86 : BitVec 32 := v85
  let v91 : Index := Scalar.indexCast v86
  ![v90.toNat, v91.toNat]
def k0_off3 (i : grid0.Coords) : Fin 2 → Nat :=
  let c0_29 : Index := 0#32
  let arg1 : BitVec 32 := BitVec.ofNat 32 (i 1).val
  let c1408_i32 : BitVec 32 := 1408#32
  let v85 : BitVec 32 := Scalar.muli arg1 c1408_i32
  let v86 : BitVec 32 := v85
  let v96 : Index := Scalar.indexCast v86
  ![0, v96.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (v70 : BitVec 32) : BitVec 1 :=
  let c0_i32_20 : BitVec 32 := 0#32
  let v71 : BitVec 1 := Scalar.cmpi .sgt v70 c0_i32_20
  let v72 : BitVec 32 := Scalar.extui v71
  let c0_i32_21 : BitVec 32 := 0#32
  let v73 : BitVec 1 := Scalar.cmpi .ne v72 c0_i32_21
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S16.size a) (numel1_S1 : S1.numel = 1) (inb_S16_S1_0 : ∀ a, (![0] : Fin 1 → Nat) a + S1.size a ≤ S16.size a) (inb_S16_S1_1 : ∀ a, (![1] : Fin 1 → Nat) a + S1.size a ≤ S16.size a) (inb_S16_S1_2 : ∀ a, (![2] : Fin 1 → Nat) a + S1.size a ≤ S16.size a) (inb_S16_S1_3 : ∀ a, (![3] : Fin 1 → Nat) a + S1.size a ≤ S16.size a) (inb_S16_S1_4 : ∀ a, (![4] : Fin 1 → Nat) a + S1.size a ≤ S16.size a) (inb_S16_S1_5 : ∀ a, (![5] : Fin 1 → Nat) a + S1.size a ≤ S16.size a) (inb_S16_S1_6 : ∀ a, (![6] : Fin 1 → Nat) a + S1.size a ≤ S16.size a) (inb_S16_S1_7 : ∀ a, (![7] : Fin 1 → Nat) a + S1.size a ≤ S16.size a) (inb_S16_S1_8 : ∀ a, (![8] : Fin 1 → Nat) a + S1.size a ≤ S16.size a) (inb_S16_S1_9 : ∀ a, (![9] : Fin 1 → Nat) a + S1.size a ≤ S16.size a) (inb_S16_S1_10 : ∀ a, (![10] : Fin 1 → Nat) a + S1.size a ≤ S16.size a) (inb_S16_S1_11 : ∀ a, (![11] : Fin 1 → Nat) a + S1.size a ≤ S16.size a) (inb_S16_S1_12 : ∀ a, (![12] : Fin 1 → Nat) a + S1.size a ≤ S16.size a) (inb_S16_S1_13 : ∀ a, (![13] : Fin 1 → Nat) a + S1.size a ≤ S16.size a) (inb_S16_S1_14 : ∀ a, (![14] : Fin 1 → Nat) a + S1.size a ≤ S16.size a) (inb_S16_S1_15 : ∀ a, (![15] : Fin 1 → Nat) a + S1.size a ≤ S16.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let v2 : BitVec 1 := Scalar.cmpi .eq v1 c0_i32
  let c0_i32_0 : BitVec 32 := 0#32
  let v3 : BitVec 1 := Scalar.cmpi .sge arg0 c0_i32_0
  let c0 : Index := 0#32
  let v4 : BitVec 32 := pf.at 0 (Rect.unit (s := S16) ![0] S1.size inb_S16_S1_0) numel1_S1
  let c0_i32_1 : BitVec 32 := 0#32
  let v5 : BitVec 1 := Scalar.cmpi .sgt v4 c0_i32_1
  let v6 : BitVec 1 := Scalar.andi v3 v5
  let c0_i32_2 : BitVec 32 := 0#32
  let c0_i32_3 : BitVec 32 := 0#32
  let v7 : BitVec 32 := Scalar.select v6 c0_i32_2 c0_i32_3
  let c1_i32 : BitVec 32 := 1#32
  let v8 : BitVec 1 := Scalar.cmpi .sge arg0 c1_i32
  let c1 : Index := 1#32
  let v9 : BitVec 32 := pf.at 0 (Rect.unit (s := S16) ![1] S1.size inb_S16_S1_1) numel1_S1
  let c0_i32_4 : BitVec 32 := 0#32
  let v10 : BitVec 1 := Scalar.cmpi .sgt v9 c0_i32_4
  let v11 : BitVec 1 := Scalar.andi v8 v10
  let c1_i32_5 : BitVec 32 := 1#32
  let v12 : BitVec 32 := Scalar.select v11 c1_i32_5 v7
  let c2_i32 : BitVec 32 := 2#32
  let v13 : BitVec 1 := Scalar.cmpi .sge arg0 c2_i32
  let c2 : Index := 2#32
  let v14 : BitVec 32 := pf.at 0 (Rect.unit (s := S16) ![2] S1.size inb_S16_S1_2) numel1_S1
  let c0_i32_6 : BitVec 32 := 0#32
  let v15 : BitVec 1 := Scalar.cmpi .sgt v14 c0_i32_6
  let v16 : BitVec 1 := Scalar.andi v13 v15
  let c2_i32_7 : BitVec 32 := 2#32
  let v17 : BitVec 32 := Scalar.select v16 c2_i32_7 v12
  let c3_i32 : BitVec 32 := 3#32
  let v18 : BitVec 1 := Scalar.cmpi .sge arg0 c3_i32
  let c3 : Index := 3#32
  let v19 : BitVec 32 := pf.at 0 (Rect.unit (s := S16) ![3] S1.size inb_S16_S1_3) numel1_S1
  let c0_i32_8 : BitVec 32 := 0#32
  let v20 : BitVec 1 := Scalar.cmpi .sgt v19 c0_i32_8
  let v21 : BitVec 1 := Scalar.andi v18 v20
  let c3_i32_9 : BitVec 32 := 3#32
  let v22 : BitVec 32 := Scalar.select v21 c3_i32_9 v17
  let c4_i32 : BitVec 32 := 4#32
  let v23 : BitVec 1 := Scalar.cmpi .sge arg0 c4_i32
  let c4 : Index := 4#32
  let v24 : BitVec 32 := pf.at 0 (Rect.unit (s := S16) ![4] S1.size inb_S16_S1_4) numel1_S1
  let c0_i32_10 : BitVec 32 := 0#32
  let v25 : BitVec 1 := Scalar.cmpi .sgt v24 c0_i32_10
  let v26 : BitVec 1 := Scalar.andi v23 v25
  let c4_i32_11 : BitVec 32 := 4#32
  let v27 : BitVec 32 := Scalar.select v26 c4_i32_11 v22
  let c5_i32 : BitVec 32 := 5#32
  let v28 : BitVec 1 := Scalar.cmpi .sge arg0 c5_i32
  let c5 : Index := 5#32
  let v29 : BitVec 32 := pf.at 0 (Rect.unit (s := S16) ![5] S1.size inb_S16_S1_5) numel1_S1
  let c0_i32_12 : BitVec 32 := 0#32
  let v30 : BitVec 1 := Scalar.cmpi .sgt v29 c0_i32_12
  let v31 : BitVec 1 := Scalar.andi v28 v30
  let c5_i32_13 : BitVec 32 := 5#32
  let v32 : BitVec 32 := Scalar.select v31 c5_i32_13 v27
  let c6_i32 : BitVec 32 := 6#32
  let v33 : BitVec 1 := Scalar.cmpi .sge arg0 c6_i32
  let c6 : Index := 6#32
  let v34 : BitVec 32 := pf.at 0 (Rect.unit (s := S16) ![6] S1.size inb_S16_S1_6) numel1_S1
  let c0_i32_14 : BitVec 32 := 0#32
  let v35 : BitVec 1 := Scalar.cmpi .sgt v34 c0_i32_14
  let v36 : BitVec 1 := Scalar.andi v33 v35
  let c6_i32_15 : BitVec 32 := 6#32
  let v37 : BitVec 32 := Scalar.select v36 c6_i32_15 v32
  let c7_i32 : BitVec 32 := 7#32
  let v38 : BitVec 1 := Scalar.cmpi .sge arg0 c7_i32
  let c7 : Index := 7#32
  let v39 : BitVec 32 := pf.at 0 (Rect.unit (s := S16) ![7] S1.size inb_S16_S1_7) numel1_S1
  let c0_i32_16 : BitVec 32 := 0#32
  let v40 : BitVec 1 := Scalar.cmpi .sgt v39 c0_i32_16
  let v41 : BitVec 1 := Scalar.andi v38 v40
  let c7_i32_17 : BitVec 32 := 7#32
  let v42 : BitVec 32 := Scalar.select v41 c7_i32_17 v37
  let c8_i32 : BitVec 32 := 8#32
  let v43 : BitVec 1 := Scalar.cmpi .sge arg0 c8_i32
  let c8 : Index := 8#32
  let v44 : BitVec 32 := pf.at 0 (Rect.unit (s := S16) ![8] S1.size inb_S16_S1_8) numel1_S1
  let c0_i32_18 : BitVec 32 := 0#32
  let v45 : BitVec 1 := Scalar.cmpi .sgt v44 c0_i32_18
  let v46 : BitVec 1 := Scalar.andi v43 v45
  let c8_i32_19 : BitVec 32 := 8#32
  let v47 : BitVec 32 := Scalar.select v46 c8_i32_19 v42
  let c9_i32 : BitVec 32 := 9#32
  let v48 : BitVec 1 := Scalar.cmpi .sge arg0 c9_i32
  let c9 : Index := 9#32
  let v49 : BitVec 32 := pf.at 0 (Rect.unit (s := S16) ![9] S1.size inb_S16_S1_9) numel1_S1
  let c0_i32_20 : BitVec 32 := 0#32
  let v50 : BitVec 1 := Scalar.cmpi .sgt v49 c0_i32_20
  let v51 : BitVec 1 := Scalar.andi v48 v50
  let c9_i32_21 : BitVec 32 := 9#32
  let v52 : BitVec 32 := Scalar.select v51 c9_i32_21 v47
  let c10_i32 : BitVec 32 := 10#32
  let v53 : BitVec 1 := Scalar.cmpi .sge arg0 c10_i32
  let c10 : Index := 10#32
  let v54 : BitVec 32 := pf.at 0 (Rect.unit (s := S16) ![10] S1.size inb_S16_S1_10) numel1_S1
  let c0_i32_22 : BitVec 32 := 0#32
  let v55 : BitVec 1 := Scalar.cmpi .sgt v54 c0_i32_22
  let v56 : BitVec 1 := Scalar.andi v53 v55
  let c10_i32_23 : BitVec 32 := 10#32
  let v57 : BitVec 32 := Scalar.select v56 c10_i32_23 v52
  let c11_i32 : BitVec 32 := 11#32
  let v58 : BitVec 1 := Scalar.cmpi .sge arg0 c11_i32
  let c11 : Index := 11#32
  let v59 : BitVec 32 := pf.at 0 (Rect.unit (s := S16) ![11] S1.size inb_S16_S1_11) numel1_S1
  let c0_i32_24 : BitVec 32 := 0#32
  let v60 : BitVec 1 := Scalar.cmpi .sgt v59 c0_i32_24
  let v61 : BitVec 1 := Scalar.andi v58 v60
  let c11_i32_25 : BitVec 32 := 11#32
  let v62 : BitVec 32 := Scalar.select v61 c11_i32_25 v57
  let c12_i32 : BitVec 32 := 12#32
  let v63 : BitVec 1 := Scalar.cmpi .sge arg0 c12_i32
  let c12 : Index := 12#32
  let v64 : BitVec 32 := pf.at 0 (Rect.unit (s := S16) ![12] S1.size inb_S16_S1_12) numel1_S1
  let c0_i32_26 : BitVec 32 := 0#32
  let v65 : BitVec 1 := Scalar.cmpi .sgt v64 c0_i32_26
  let v66 : BitVec 1 := Scalar.andi v63 v65
  let c12_i32_27 : BitVec 32 := 12#32
  let v67 : BitVec 32 := Scalar.select v66 c12_i32_27 v62
  let c13_i32 : BitVec 32 := 13#32
  let v68 : BitVec 1 := Scalar.cmpi .sge arg0 c13_i32
  let c13 : Index := 13#32
  let v69 : BitVec 32 := pf.at 0 (Rect.unit (s := S16) ![13] S1.size inb_S16_S1_13) numel1_S1
  let c0_i32_28 : BitVec 32 := 0#32
  let v70 : BitVec 1 := Scalar.cmpi .sgt v69 c0_i32_28
  let v71 : BitVec 1 := Scalar.andi v68 v70
  let c13_i32_29 : BitVec 32 := 13#32
  let v72 : BitVec 32 := Scalar.select v71 c13_i32_29 v67
  let c14_i32 : BitVec 32 := 14#32
  let v73 : BitVec 1 := Scalar.cmpi .sge arg0 c14_i32
  let c14 : Index := 14#32
  let v74 : BitVec 32 := pf.at 0 (Rect.unit (s := S16) ![14] S1.size inb_S16_S1_14) numel1_S1
  let c0_i32_30 : BitVec 32 := 0#32
  let v75 : BitVec 1 := Scalar.cmpi .sgt v74 c0_i32_30
  let v76 : BitVec 1 := Scalar.andi v73 v75
  let c14_i32_31 : BitVec 32 := 14#32
  let v77 : BitVec 32 := Scalar.select v76 c14_i32_31 v72
  let c15_i32 : BitVec 32 := 15#32
  let v78 : BitVec 1 := Scalar.cmpi .sge arg0 c15_i32
  let c15 : Index := 15#32
  let v79 : BitVec 32 := pf.at 0 (Rect.unit (s := S16) ![15] S1.size inb_S16_S1_15) numel1_S1
  let c0_i32_32 : BitVec 32 := 0#32
  let v80 : BitVec 1 := Scalar.cmpi .sgt v79 c0_i32_32
  let v81 : BitVec 1 := Scalar.andi v78 v80
  let c15_i32_33 : BitVec 32 := 15#32
  let v82 : BitVec 32 := Scalar.select v81 c15_i32_33 v77
  let c0_i32_34 : BitVec 32 := 0#32
  let v83 : BitVec 1 := Scalar.cmpi .sgt arg0 c0_i32_34
  let v84 : BitVec 1 := Scalar.andi v2 v83
  let c1_i32_35 : BitVec 32 := 1#32
  let v85 : BitVec 32 := Scalar.select v84 c1_i32_35 arg1
  let c0_i32_36 : BitVec 32 := 0#32
  let c0_i32_37 : BitVec 32 := 0#32
  ![v82.toNat, c0_i32_36.toNat, v85.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2816x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S256x2816 : Shape := ⟨2, ![256, 2816]⟩
abbrev S256x1 : Shape := ⟨2, ![256, 1]⟩
abbrev S16 : Shape := ⟨1, ![16]⟩
abbrev S16x2816x2816 : Shape := ⟨3, ![16, 2816, 2816]⟩
abbrev S16x2816 : Shape := ⟨2, ![16, 2816]⟩
abbrev S_ : Shape := ⟨0, ![]⟩
abbrev S256 : Shape := ⟨1, ![256]⟩
abbrev S16x1 : Shape := ⟨2, ![16, 1]⟩
abbrev S1x256 : Shape := ⟨2, ![1, 256]⟩
abbrev S16x256 : Shape := ⟨2, ![16, 256]⟩
abbrev S16x256x1 : Shape := ⟨3, ![16, 256, 1]⟩
abbrev S1x256x2816 : Shape := ⟨3, ![1, 256, 2816]⟩
abbrev S16x256x2816 : Shape := ⟨3, ![16, 256, 2816]⟩
abbrev S1 : Shape := ⟨1, ![1]⟩
abbrev S15 : Shape := ⟨1, ![15]⟩
abbrev S1x1 : Shape := ⟨2, ![1, 1]⟩

abbrev nBuf : Space → Nat
  | .hbm => 97
  | .vmem => 4
  | .smem => 0
  | _ => 0

abbrev bufTy : (tb : Table) → Fin (tcTables nBuf tb) → BufTy
  | .hbm, ⟨0, _⟩ => ⟨S256x2816, .fp8e4m3⟩
  | .hbm, ⟨1, _⟩ => ⟨S256x1, .f32⟩
  | .hbm, ⟨2, _⟩ => ⟨S16, .i32⟩
  | .hbm, ⟨3, _⟩ => ⟨S16x2816x2816, .fp8e4m3⟩
  | .hbm, ⟨4, _⟩ => ⟨S16x2816, .f32⟩
  | .hbm, ⟨5, _⟩ => ⟨S256x2816, .f32⟩
  | .hbm, ⟨6, _⟩ => ⟨S16x2816x2816, .f32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S256, .i32⟩
  | .hbm, ⟨12, _⟩ => ⟨S16x1, .i32⟩
  | .hbm, ⟨13, _⟩ => ⟨S1x256, .i32⟩
  | .hbm, ⟨14, _⟩ => ⟨S16x256, .i32⟩
  | .hbm, ⟨15, _⟩ => ⟨S16x256, .i32⟩
  | .hbm, ⟨16, _⟩ => ⟨S16x256, .i1⟩
  | .hbm, ⟨17, _⟩ => ⟨S1x256, .i32⟩
  | .hbm, ⟨18, _⟩ => ⟨S16x1, .i32⟩
  | .hbm, ⟨19, _⟩ => ⟨S16x256, .i32⟩
  | .hbm, ⟨20, _⟩ => ⟨S16x256, .i32⟩
  | .hbm, ⟨21, _⟩ => ⟨S16x256, .i1⟩
  | .hbm, ⟨22, _⟩ => ⟨S16x256, .i1⟩
  | .hbm, ⟨23, _⟩ => ⟨S16x256x1, .i1⟩
  | .hbm, ⟨24, _⟩ => ⟨S1x256x2816, .f32⟩
  | .hbm, ⟨25, _⟩ => ⟨S_, .f32⟩
  | .hbm, ⟨26, _⟩ => ⟨S_, .f32⟩
  | .hbm, ⟨27, _⟩ => ⟨S16x256x2816, .i1⟩
  | .hbm, ⟨28, _⟩ => ⟨S16x256x2816, .f32⟩
  | .hbm, ⟨29, _⟩ => ⟨S16x256x2816, .f32⟩
  | .hbm, ⟨30, _⟩ => ⟨S16x256x2816, .f32⟩
  | .hbm, ⟨31, _⟩ => ⟨S256x2816, .f32⟩
  | .hbm, ⟨32, _⟩ => ⟨S16, .i32⟩
  | .hbm, ⟨33, _⟩ => ⟨S1, .i32⟩
  | .hbm, ⟨34, _⟩ => ⟨S15, .i32⟩
  | .hbm, ⟨35, _⟩ => ⟨S16, .i32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S16, .i32⟩
  | .hbm, ⟨40, _⟩ => ⟨S_, .i32⟩
  | .hbm, ⟨41, _⟩ => ⟨S_, .i32⟩
  | .hbm, ⟨42, _⟩ => ⟨S16, .i32⟩
  | .hbm, ⟨43, _⟩ => ⟨S_, .i32⟩
  | .hbm, ⟨44, _⟩ => ⟨S256, .i32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S16x1, .i32⟩
  | .hbm, ⟨53, _⟩ => ⟨S_, .i32⟩
  | .hbm, ⟨54, _⟩ => ⟨S16, .i32⟩
  | .hbm, ⟨55, _⟩ => ⟨S256, .i32⟩
  | .hbm, ⟨56, _⟩ => ⟨S_, .i32⟩
  | .hbm, ⟨57, _⟩ => ⟨S_, .i32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S256x1, .i32⟩
  | .hbm, ⟨70, _⟩ => ⟨S1, .i32⟩
  | .hbm, ⟨71, _⟩ => ⟨S_, .i32⟩
  | .hbm, ⟨72, _⟩ => ⟨S256x1, .i32⟩
  | .hbm, ⟨73, _⟩ => ⟨S256x1, .i1⟩
  | .hbm, ⟨74, _⟩ => ⟨S1x1, .i32⟩
  | .hbm, ⟨75, _⟩ => ⟨S256x1, .i32⟩
  | .hbm, ⟨76, _⟩ => ⟨S256x1, .i1⟩
  | .hbm, ⟨77, _⟩ => ⟨S256x1, .i1⟩
  | .hbm, ⟨78, _⟩ => ⟨S_, .i1⟩
  | .hbm, ⟨79, _⟩ => ⟨S256, .i1⟩
  | .hbm, ⟨80, _⟩ => ⟨S256, .i32⟩
  | .hbm, ⟨81, _⟩ => ⟨S_, .i32⟩
  | .hbm, ⟨82, _⟩ => ⟨S256, .i32⟩
  | .hbm, ⟨83, _⟩ => ⟨S256, .i32⟩
  | .hbm, ⟨84, _⟩ => ⟨S256x2816, .f32⟩
  | .hbm, ⟨85, _⟩ => ⟨S256x2816, .f32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S256x1, .i32⟩
  | .hbm, ⟨94, _⟩ => ⟨S256x2816, .f32⟩
  | .hbm, ⟨95, _⟩ => ⟨S256x2816, .f32⟩
  | .hbm, ⟨96, _⟩ => ⟨S256x2816, .bf16⟩
  | .local _ .vmem, ⟨0, _⟩ => ⟨S256x2816, .fp8e4m3⟩
  | .local _ .vmem, ⟨1, _⟩ => ⟨S16x2816x2816, .fp8e4m3⟩
  | .local _ .vmem, ⟨2, _⟩ => ⟨S256x2816, .f32⟩
  | .local _ .vmem, ⟨3, _⟩ => ⟨S16x2816x2816, .f32⟩
  | _, _ => ⟨S256x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_v1 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_c_0 : Ref sig .tc := ⟨.hbm, 38, rfl⟩
abbrev main_v22 : Ref sig .tc := ⟨.hbm, 39, rfl⟩
abbrev main_call3_call0_c : Ref sig .tc := ⟨.hbm, 40, rfl⟩
abbrev main_call3_call0_v0 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_call4_call0_c : Ref sig .tc := ⟨.hbm, 56, rfl⟩
abbrev main_call4_call0_v0 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_call5_c : Ref sig .tc := ⟨.hbm, 62, rfl⟩
abbrev main_call5_v0 : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_c_1 : Ref sig .tc := ⟨.hbm, 70, rfl⟩
abbrev main_call5_c_2 : Ref sig .tc := ⟨.hbm, 71, rfl⟩
abbrev main_call5_v6 : Ref sig .tc := ⟨.hbm, 72, rfl⟩
abbrev main_call5_v7 : Ref sig .tc := ⟨.hbm, 73, rfl⟩
abbrev main_call5_v8 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_c_3 : Ref sig .tc := ⟨.hbm, 78, rfl⟩
abbrev main_call5_v12 : Ref sig .tc := ⟨.hbm, 79, rfl⟩
abbrev main_call5_v13 : Ref sig .tc := ⟨.hbm, 80, rfl⟩
abbrev main_call5_c_4 : Ref sig .tc := ⟨.hbm, 81, rfl⟩
abbrev main_call5_v14 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_6 : Ref sig .tc := ⟨.hbm, 86, rfl⟩
abbrev main_v39 : Ref sig .tc := ⟨.hbm, 87, rfl⟩
abbrev main_v40 : Ref sig .tc := ⟨.hbm, 88, rfl⟩
abbrev main_c_7 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2816x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2816x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Setup.lean ====
/- The grouped product's pipeline, set up for the proof: the memory the region starts from, the prefetched table of group
   sizes, the blocks the input windows stage, and where the output window is written back. Everything here holds at any
   float values and for every contents of the table that satisfies the pipeline's side condition. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the region's entry -/

/-- Core `c`'s buffers when the region is entered: as launched, the function being the region alone. -/
abbrev V (c : Dev nD) (b : Ref sig .tc) : Buf (Elt F) ((c : Thread nD τ).loc b) := m ((c : Thread nD τ).loc b)

set_option maxHeartbeats 800000 in
/-- The function up to the region: nothing before it. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The prefetched table -/

/-- The table of group sizes, read off the launch memory (the program runs on one device). -/
def tbl : pre0.Contents (Elt F) := fun j => V m (0 : Dev nD) (pre0.ref j)

/-- Every device's table holds those contents: there is one device. -/
theorem V_pre (c : Dev nD) (j : Fin 1) : V m c (pre0.ref j) = tbl m j := by
  obtain rfl : c = 0 := Subsingleton.elim _ _; rfl

/-- The pipeline's side condition of the table: the weight window's block lies inside its array at every point. -/
abbrev Ok : Prop := ok0 (F := F) (tbl m)
/-- The table as admissible contents, and the pipeline at them. -/
abbrev adm (hO : Ok m) : (pcfg0 (F := F)).Adm := ⟨tbl m, hO⟩
abbrev cfgM (hO : Ok m) : Pipeline.Cfg sig Λ₀ := cfg0 (adm m hO)

/-- The table as the body is handed it: its whole buffer, -/
abbrev tbM : Memref sig .tc .smem S16 .i32 := Memref.whole main_arg2
abbrev htbM : tbM.IsWhole := Memref.isWhole_whole _

/-- held at half the full share, the pipeline keeping the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The region's half of the tables is the half of the one table. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section Before

variable (hO : Ok m) {c : Dev nD} (dat : Dat τ (Elt F) Unit ℕ (UR sig nD τ) ℕ (cfgM m hO) c)

/-! Each input's staging buffer holds its block at every point, fetched there or not, for any proof data whose array is
the region's and whose body leaves the block in place. -/

theorem before_0_of (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V m c (Pipeline.arrRef spec0 3)) (hafter : ∀ t, dat.after 3 t = iblk m hO c 3 t)
    (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Before

/-! ## The points -/

/-- The output block is written back at the last point only: its index map is constant. -/
theorem flush_4 (a : (pcfg0 (F := F)).Adm) : ∀ t : Fin (cfg0 a).N, ((cfg0 a).win 4).flush t = true ↔ t.val % 32 = 31 :=
  (fun t => Pipeline.Window.flushOf_const cc0_transform_4 (fun _ _ => rfl) (n := 32) (by decide) rfl t : ∀ t : Fin grid0.N, Pipeline.Window.flushOf grid0 true cc0_transform_4 t = true ↔ t.val % 32 = 31)

/-- A point's coordinates: the expert, and the half of the columns. -/
theorem coords_0 (t : Fin grid0.N) : (grid0.coords t 0).val = t.val / 2 := by
  have ht : t.val < 32 := Nat.lt_of_lt_of_eq t.isLt N_0
  have e : (grid0.coords t 0).val = t.val / 2 % 16 := Pipeline.Grid.coords_val t 0 (by decide) rfl
  rw [e]; omega
theorem coords_1 (t : Fin grid0.N) : (grid0.coords t 1).val = t.val % 2 := by
  have e : (grid0.coords t 1).val = t.val / 1 % 2 := Pipeline.Grid.coords_val t 1 (by decide) rfl
  rw [e, Nat.div_one]

/-- The body clears the output at the first point only. -/
theorem cond1_iff (t : Fin grid0.N) : k0_cond1 (grid0.coords t) = 1#1 ↔ t.val = 0 := by
  have ht : t.val < 32 := Nat.lt_of_lt_of_eq t.isLt N_0
  unfold k0_cond1
  simp only [coords_0, coords_1]
  word_cmp

/-- The body computes at a point whose group is not empty. -/
theorem cond2_iff (v : BitVec 32) : k0_cond2 v = 1#1 ↔ 0 < v.toInt := by
  have h0 : (0#32 : BitVec 32).toInt = 0 := rfl
  by_cases h : 0 < v.toInt <;>
    simp [k0_cond2, Scalar.cmpi, Scalar.extui, IntOp.cmpi, BitVec.slt, h0, h]

/-- The current staging memref of each window at point `t`, and its wholeness. -/
abbrev ms_0 (hO : Ok m) (t : Fin (cfgM m hO).N) : Memref sig .tc .vmem S256x2816 .fp8e4m3 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S256x1 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x2816x1408 .fp8e4m3 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S16x2816 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S256x2816 .bf16 := spec0_4.stage ((cfgM m hO).slots t 4)
abbrev hs_4 (hO : Ok m) (t : Fin (cfgM m hO).N) : (ms_4 m hO t).IsWhole := hstage0_4 (((cfgM m hO).slots t 4).cast nbuf0_4)

/-- The kernel body at point `t`, on what the pipeline calls it with, -/
abbrev bodyAt (hO : Ok m) (t : Fin (cfgM m hO).N) : Prog (TpuEff nD τ sig (Elt F) Λ₀ .tc) PUnit :=
  cc0__body (grid0.coords t) tbM htbM (ms_0 m hO t) (hs_0 m hO t) (ms_1 m hO t) (hs_1 m hO t) (ms_2 m hO t) (hs_2 m hO t) (ms_3 m hO t) (hs_3 m hO t) (ms_4 m hO t) (hs_4 m hO t)

/-- as the body table's row at the point's slots. -/
theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-! ## The frame from a frame run -/

/-- A run that leaves the pipeline's arrays as its proof data says, and every other buffer as the region found it, leaves
    the arguments unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans (hA c 0)),
      ((h c).1 1).trans (((dats 0 c).arrAt_in 1 rfl _).trans (hA c 1)),
      (h c).2 main_arg2 (by decide : main_arg2 ∈ Pipeline.restRefs sig spec0),
      ((h c).1 2).trans (((dats 0 c).arrAt_in 2 rfl _).trans (hA c 2)),
      ((h c).1 3).trans (((dats 0 c).arrAt_in 3 rfl _).trans (hA c 3))⟩) h

end Cert.KernelIdeal.Grouped

end
-- ==== Proof.Run.lean ====
/- The body, run once for any staged blocks, any table of group sizes and any contents of the output's staging buffer: what
   the output's buffer ends with is read off the run. The body's two conditions — the first point, a nonempty group — stay in
   it as conditionals of the contents. -/
module

public import proofs.«01_k».proof.Proof.Setup

@[expose] public section

set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the inputs' buffers and the table are handed back as found, and the output's buffer ends with the
    contents the run leaves. -/
noncomputable def bodyRun (c : Dev nD) (i : grid0.Coords) (arg3 : Memref sig .tc .vmem S256x2816 .fp8e4m3) (harg3 : arg3.IsWhole) (arg4 : Memref sig .tc .vmem S256x1 .f32) (harg4 : arg4.IsWhole) (arg5 : Memref sig .tc .vmem S1x2816x1408 .fp8e4m3) (harg5 : arg5.IsWhole) (arg6 : Memref sig .tc .vmem S16x2816 .f32) (harg6 : arg6.IsWhole) (arg7 : Memref sig .tc .vmem S256x2816 .bf16) (harg7 : arg7.IsWhole)
    (x0 : Vec F S256x2816 .fp8e4m3) (x1 : Vec F S256x1 .f32) (x2 : Vec F S1x2816x1408 .fp8e4m3) (x3 : Vec F S16x2816 .f32) (xt0 : TbBuf (F := F) c tbM) (xo : Vec F S256x2816 .bf16) :
    { G : Buf (Elt F) (arg7.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ tbPt c tbM xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} G) ∗ tbPt c tbM xt0) -∗ K ⟨⟩))
          ⊢ wp frame (wpE (defs₀ (F := F)) Variants.none c none) E (cc0__body i tbM htbM arg3 harg3 arg4 harg4 arg5 harg5 arg6 harg6 arg7 harg7) K } := by
  refine ⟨?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    iexact HT0

end Cert.KernelIdeal.Grouped

end
-- ==== Proof.Table.lean ====
/- The weight window's index map, read off the table of group sizes: the block it names is always one of the array's, for
   every contents of the table, so the pipeline's side condition holds unconditionally; and at an expert whose group is not
   empty it is that expert's block. -/
module

public import proofs.«01_k».proof.Proof.Setup

@[expose] public section

set_option maxRecDepth 16384

noncomputable section

namespace Cert.KernelIdeal.Grouped

open Cert.KernelIdeal.Gen
open Idealize.ShloMosaic Idealize.ShloMosaic.TcCoe

variable {F : FTy → Type} [FloatOps F]

/-! ## The last nonempty group up to an expert -/

/-- The last of the groups `0 … n-1` that is at most `e` and not empty, as the index map computes it: one select per
    group, in order, starting from group 0. -/
def lastUpto (g : Fin 16 → BitVec 32) (e : BitVec 32) : ℕ → BitVec 32
  | 0 => 0#32
  | n + 1 => Scalar.select (Scalar.andi (Scalar.cmpi .sge e (BitVec.ofNat 32 n)) (Scalar.cmpi .sgt (g (Fin.ofNat 16 n)) 0#32))
      (BitVec.ofNat 32 n) (lastUpto g e n)

/-- It is one of the groups looked at (or group 0). -/
theorem lastUpto_le (g : Fin 16 → BitVec 32) (e : BitVec 32) : ∀ n, n ≤ 16 → (lastUpto g e n).toNat ≤ n - 1
  | 0, _ => by simp [lastUpto]
  | n + 1, h => by
    have ih := lastUpto_le g e n (by omega)
    have hn : (BitVec.ofNat 32 n).toNat = n := by rw [BitVec.toNat_ofNat, Nat.mod_eq_of_lt (by omega)]
    unfold lastUpto Scalar.select
    split
    · omega
    · omega

/-- Comparisons of small words, on the numbers they hold. -/
theorem sge_small (a b : ℕ) (ha : a < 16) (hb : b < 16) : Scalar.cmpi .sge (BitVec.ofNat 32 a) (BitVec.ofNat 32 b) = 1#1 ↔ b ≤ a := by
  word_cmp
theorem sgt_zero (v : BitVec 32) : Scalar.cmpi .sgt v 0#32 = 1#1 ↔ 0 < v.toInt := by
  have h0 : (0#32 : BitVec 32).toInt = 0 := rfl
  by_cases h : 0 < v.toInt <;> simp [Scalar.cmpi, IntOp.cmpi, BitVec.slt, h0, h]
theorem eq_zero_of_cmpi (v : BitVec 32) (h : Scalar.cmpi .eq v 0#32 = 1#1) : v = 0#32 := by
  by_contra hne
  simp only [Scalar.cmpi, IntOp.cmpi] at h
  rw [show (v == 0#32) = false from beq_eq_false_iff_ne.mpr hne] at h
  exact absurd h (by decide)
theorem andi_eq_one (a b : BitVec 1) : Scalar.andi a b = 1#1 ↔ a = 1#1 ∧ b = 1#1 := by
  revert a b; decide

theorem select_true {α : Type} {c : BitVec 1} (h : c = 1#1) (a b : α) : Scalar.select c a b = a := by subst h; rfl
theorem select_false {α : Type} {c : BitVec 1} (h : ¬ c = 1#1) (a b : α) : Scalar.select c a b = b := if_neg h

/-- At a nonempty group it is that group: the later ones are past the expert. -/
theorem lastUpto_self (g : Fin 16 → BitVec 32) (e : Fin 16) (hg : 0 < (g e).toInt) :
    ∀ n, e.val < n → n ≤ 16 → lastUpto g (BitVec.ofNat 32 e.val) n = BitVec.ofNat 32 e.val
  | 0, h, _ => absurd h (Nat.not_lt_zero _)
  | n + 1, h, hn => by
    unfold lastUpto
    rcases Nat.lt_succ_iff_lt_or_eq.mp h with h' | h'
    · rw [select_false fun hc => absurd ((sge_small e.val n e.isLt (by omega)).mp ((andi_eq_one _ _).mp hc).1) (by omega),
        lastUpto_self g e hg n h' (by omega)]
    · have he : Fin.ofNat 16 n = e := Fin.ext (by simp [Fin.ofNat, h'.symm])
      rw [select_true ((andi_eq_one _ _).mpr ⟨(sge_small e.val n e.isLt (by omega)).mpr (by omega), (sgt_zero _).mpr (he ▸ hg)⟩), h']

/-! ## The weight window's blocks -/

/-- The size of group `k`, as the table holds it. -/
def word (pf : pre0.Contents (Elt F)) (k : Fin 16) : BitVec 32 :=
  pf.at 0 (Rect.unit (s := S16) ![k.val] S1.size (fun a => by
    have := k.isLt; fin_cases a; show k.val + 1 ≤ 16; omega)) numel1_S1

/-- The word the body and the index map load at the point's expert is the size of its group. -/
theorem at_off1 (pf : pre0.Contents (Elt F)) (i : grid0.Coords) :
    pf.at 0 (Rect.unit (s := S16) (k0_off1 i) S1.size (k0_off1_inb i)) numel1_S1 = word pf (i 0) := by
  have hoff : k0_off1 i = ![(i 0).val] := by
    have h : (i 0).val < 16 := (i 0).isLt
    show ![(BitVec.ofNat 32 (i 0).val).toNat] = _
    rw [BitVec.toNat_ofNat, Nat.mod_eq_of_lt (by omega)]
  have gen : ∀ (off off' : Fin 1 → ℕ) (h : ∀ a, off a + S1.size a ≤ S16.size a) (h' : ∀ a, off' a + S1.size a ≤ S16.size a), off = off' →
      pf.at 0 (Rect.unit (s := S16) off S1.size h) numel1_S1 = pf.at 0 (Rect.unit (s := S16) off' S1.size h') numel1_S1 := by
    rintro off _ h h' rfl; rfl
  exact gen _ _ _ _ hoff

/-- The index map of the weight window at the contents `pf` of the table. -/
abbrev wmap (pf : pre0.Contents (Elt F)) : grid0.Coords → Fin 3 → ℕ :=
  cc0_transform_2 k0_off1_inb numel1_S1 inb_S16_S1_0 inb_S16_S1_1 inb_S16_S1_2 inb_S16_S1_3 inb_S16_S1_4 inb_S16_S1_5 inb_S16_S1_6 inb_S16_S1_7 inb_S16_S1_8 inb_S16_S1_9 inb_S16_S1_10 inb_S16_S1_11 inb_S16_S1_12 inb_S16_S1_13 inb_S16_S1_14 inb_S16_S1_15 pf

/-- Its expert is the last nonempty group up to the point's. -/
theorem wmap_0 (pf : pre0.Contents (Elt F)) (i : grid0.Coords) :
    wmap pf i 0 = (lastUpto (word pf) (BitVec.ofNat 32 (i 0).val) 16).toNat := rfl
/-- It takes all rows of the expert's matrix. -/
theorem wmap_1 (pf : pre0.Contents (Elt F)) (i : grid0.Coords) : wmap pf i 1 = 0 := rfl
/-- Its half of the columns is the point's, or the second one. -/
theorem wmap_2 (pf : pre0.Contents (Elt F)) (i : grid0.Coords) :
    wmap pf i 2 = (Scalar.select (Scalar.andi (Scalar.cmpi .eq (word pf (i 0)) 0#32) (Scalar.cmpi .sgt (BitVec.ofNat 32 (i 0).val) 0#32))
      1#32 (BitVec.ofNat 32 (i 1).val)).toNat := by
  rw [← at_off1]; rfl

/-- At a point whose group is not empty the block is the point's expert's, in the point's half of the columns. -/
theorem wmap_nonempty (pf : pre0.Contents (Elt F)) (i : grid0.Coords) (hg : 0 < (word pf (i 0)).toInt) :
    wmap pf i = ![(i 0).val, 0, (i 1).val] := by
  have h0 : (i 0).val < 16 := (i 0).isLt
  have h1 : (i 1).val < 2 := (i 1).isLt
  funext a
  fin_cases a
  · show wmap pf i 0 = (i 0).val
    rw [wmap_0, lastUpto_self (word pf) (i 0) hg 16 h0 le_rfl, BitVec.toNat_ofNat, Nat.mod_eq_of_lt (by omega)]
  · exact wmap_1 pf i
  · show wmap pf i 2 = (i 1).val
    rw [wmap_2, select_false, BitVec.toNat_ofNat, Nat.mod_eq_of_lt (by omega)]
    intro hc
    have hz : word pf (i 0) = 0#32 := eq_zero_of_cmpi _ ((andi_eq_one _ _).mp hc).1
    rw [hz] at hg; exact absurd hg (by decide)

/-- The side condition holds for every contents of the table. -/
theorem ok_all (pf : pre0.Contents (Elt F)) : ok0 pf := by
  intro i
  have h0 : wmap pf i 0 ≤ 15 := by rw [wmap_0]; exact lastUpto_le _ _ 16 le_rfl
  have h1 : wmap pf i 1 = 0 := wmap_1 pf i
  have h2 : wmap pf i 2 ≤ 1 := by
    have hj : (i 1).val < 2 := (i 1).isLt
    rw [wmap_2]; unfold Scalar.select; split
    · decide
    · rw [BitVec.toNat_ofNat, Nat.mod_eq_of_lt (by omega)]; omega
  refine ⟨fun a => ?_, .inr (.inr ⟨by decide, rfl, ?_, rfl⟩)⟩
  · fin_cases a
    · show (wmap pf i 0 + 1) * 1 ≤ 16; omega
    · show (wmap pf i 1 + 1) * 2816 ≤ 2816; omega
    · show (wmap pf i 2 + 1) * 1408 ≤ 2816; omega
  · show wmap pf i 1 * 2816 = 0; rw [h1]

end Cert.KernelIdeal.Grouped

end
-- ==== Proof.Frame.lean ====
/- The kernel's frame. What the output's staging buffer holds after each point is one recursion over the points: the body run
   at the point's blocks over what the point before left (the first point clears it, so what it finds there is
   immaterial). A point whose group is empty stores nothing and hands the buffer back as found. -/
module

public import proofs.«01_k».proof.Proof.Run
public import proofs.«01_k».proof.Proof.Table
public import Idealize.ShloMosaic.Lib.Claim
public import Idealize.ShloMosaic.Lib.VecWindow

@[expose] public section

set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output's buffer -/

/-- What the body leaves, read back: a function of the blocks, the table and what it found. -/
def bodyOut (c : Dev nD) (i : grid0.Coords) (arg3 : Memref sig .tc .vmem S256x2816 .fp8e4m3) (harg3 : arg3.IsWhole) (arg4 : Memref sig .tc .vmem S256x1 .f32) (harg4 : arg4.IsWhole) (arg5 : Memref sig .tc .vmem S1x2816x1408 .fp8e4m3) (harg5 : arg5.IsWhole) (arg6 : Memref sig .tc .vmem S16x2816 .f32) (harg6 : arg6.IsWhole) (arg7 : Memref sig .tc .vmem S256x2816 .bf16) (harg7 : arg7.IsWhole)
    (x0 : Vec F S256x2816 .fp8e4m3) (x1 : Vec F S256x1 .f32) (x2 : Vec F S1x2816x1408 .fp8e4m3) (x3 : Vec F S16x2816 .f32) (xt0 : TbBuf (F := F) c tbM) (xo : Vec F S256x2816 .bf16) : Vec F S256x2816 .bf16 :=
  arg7.view.read (Elt F) (bodyRun c i arg3 harg3 arg4 harg4 arg5 harg5 arg6 harg6 arg7 harg7 x0 x1 x2 x3 xt0 xo).1

/-- The same as a function of vectors: the first point clears the output; a nonempty group then has its rows stored over
    the point's half of the columns, the other rows as they were. -/
def stepOut (c : Dev nD) (i : grid0.Coords) (x0 : Vec F S256x2816 .fp8e4m3) (x1 : Vec F S256x1 .f32) (x2 : Vec F S1x2816x1408 .fp8e4m3) (x3 : Vec F S16x2816 .f32) (xt0 : TbBuf (F := F) c tbM) (xo : Vec F S256x2816 .bf16) : Vec F S256x2816 .bf16 :=
  let base : Vec F S256x2816 .bf16 := if k0_cond1 i = 1#1 then k0_pay2 else xo
  if k0_cond2 (bodyRun.sl.r_16 c i xt0) = 1#1 then
    VecWindow.put base (k0_off3 i) S256x1408.size
      (k0_pay1 (bodyRun.sl.v64 c i xt0) (bodyRun.sl.v65 i) (bodyRun.sl.r_15 c xt0) (bodyRun.sl.r_16 c i xt0) x0 x2 x1
        (VecWindow.window x3 (k0_off2 i) S1x1408.size (k0_off2_inb i)) (VecWindow.window base (k0_off3 i) S256x1408.size (k0_off3_inb i)))
  else base

theorem bodyOut_eq (c : Dev nD) (i : grid0.Coords) (arg3 : Memref sig .tc .vmem S256x2816 .fp8e4m3) (harg3 : arg3.IsWhole) (arg4 : Memref sig .tc .vmem S256x1 .f32) (harg4 : arg4.IsWhole) (arg5 : Memref sig .tc .vmem S1x2816x1408 .fp8e4m3) (harg5 : arg5.IsWhole) (arg6 : Memref sig .tc .vmem S16x2816 .f32) (harg6 : arg6.IsWhole) (arg7 : Memref sig .tc .vmem S256x2816 .bf16) (harg7 : arg7.IsWhole)
    (x0 : Vec F S256x2816 .fp8e4m3) (x1 : Vec F S256x1 .f32) (x2 : Vec F S1x2816x1408 .fp8e4m3) (x3 : Vec F S16x2816 .f32) (xt0 : TbBuf (F := F) c tbM) (xo : Vec F S256x2816 .bf16) :
    bodyOut c i arg3 harg3 arg4 harg4 arg5 harg5 arg6 harg6 arg7 harg7 x0 x1 x2 x3 xt0 xo = stepOut c i x0 x1 x2 x3 xt0 xo := by
  have hbase : arg7.view.read (Elt F) (if hc : k0_cond1 i = 1#1 then arg7.view.writes (Elt F) (harg7.unread xo) [⟨Rect.unit ![0, 0] S256x2816.size inb_S256x2816_S256x2816_0_0, k0_pay2⟩] else harg7.unread xo)
      = if k0_cond1 i = 1#1 then k0_pay2 else xo := by
    by_cases h : k0_cond1 i = 1#1
    · rw [dif_pos h, if_pos h]; exact View.read_writes_full _ _ _ _ _
    · rw [dif_neg h, if_neg h]; exact harg7.read_unread _
  have hv97 : bodyRun.sl.v97 c i arg7 harg7 xo = VecWindow.window (if k0_cond1 i = 1#1 then k0_pay2 else xo) (k0_off3 i) S256x1408.size (k0_off3_inb i) := by
    rw [← hbase]; rfl
  unfold bodyOut bodyRun stepOut
  dsimp only
  by_cases h : k0_cond2 (bodyRun.sl.r_16 c i xt0) = 1#1
  · rw [dif_pos h, if_pos h]
    refine (View.read_writes_cons_put _ _ _ _ [] rfl).trans ?_
    rw [View.writes_nil, hbase, hv97]
    have e0 : View.readAt (Elt F) arg3.view (Rect.unit (s := S256x2816) ![0, 0] S256x2816.size inb_S256x2816_S256x2816_0_0).toLoadRect (harg3.unread x0) = x0 :=
      (View.readAt_full _ _ _).trans (harg3.read_unread _)
    have e1 : View.readAt (Elt F) arg4.view (Rect.unit (s := S256x1) ![0, 0] S256x1.size inb_S256x1_S256x1_0_0).toLoadRect (harg4.unread x1) = x1 :=
      (View.readAt_full _ _ _).trans (harg4.read_unread _)
    have e2 : View.readAt (Elt F) arg5.view (Rect.unit (s := S1x2816x1408) ![0, 0, 0] S1x2816x1408.size inb_S1x2816x1408_S1x2816x1408_0_0_0).toLoadRect (harg5.unread x2) = x2 :=
      (View.readAt_full _ _ _).trans (harg5.read_unread _)
    have e3 : View.readAt (Elt F) arg6.view (Rect.unit (s := S16x2816) (k0_off2 i) S1x1408.size (k0_off2_inb i)).toLoadRect (harg6.unread x3) = VecWindow.window x3 (k0_off2 i) S1x1408.size (k0_off2_inb i) :=
      (View.readAt_unit _ _ _ rfl _).trans (by rw [harg6.read_unread])
    exact congrArg (VecWindow.put _ _ _) (congr (congr (congr (congr (congrArg (k0_pay1 _ _ _ _) e0) e2) e1) e3) rfl)
  · rw [dif_neg h, if_neg h]; exact hbase

/-- At the first point what it found is immaterial: the body clears the buffer first. -/
theorem stepOut_first (c : Dev nD) (i : grid0.Coords) (h1 : k0_cond1 i = 1#1) (x0 : Vec F S256x2816 .fp8e4m3) (x1 : Vec F S256x1 .f32) (x2 : Vec F S1x2816x1408 .fp8e4m3) (x3 : Vec F S16x2816 .f32) (xt0 : TbBuf (F := F) c tbM) (xo xo' : Vec F S256x2816 .bf16) :
    stepOut c i x0 x1 x2 x3 xt0 xo = stepOut c i x0 x1 x2 x3 xt0 xo' := by
  unfold stepOut; simp only [if_pos h1]

/-- Where both conditions fail it leaves what it found. -/
theorem stepOut_idle (c : Dev nD) (i : grid0.Coords) (h1 : ¬ k0_cond1 i = 1#1) (x0 : Vec F S256x2816 .fp8e4m3) (x1 : Vec F S256x1 .f32) (x2 : Vec F S1x2816x1408 .fp8e4m3) (x3 : Vec F S16x2816 .f32) (xt0 : TbBuf (F := F) c tbM) (xo : Vec F S256x2816 .bf16)
    (h2 : ¬ k0_cond2 (bodyRun.sl.r_16 c i xt0) = 1#1) : stepOut c i x0 x1 x2 x3 xt0 xo = xo := by
  unfold stepOut; simp only [if_neg h1, if_neg h2]

/-- The word the second condition reads is the size of the point's group. -/
theorem size_word (c : Dev nD) (i : grid0.Coords) (pf : pre0.Contents (Elt F)) : bodyRun.sl.r_16 c i (pf 0) = word pf (i 0) := by
  rw [← at_off1]; rfl

/-! ## What the output's buffer holds after each point -/

/-- After the body at position `n`: the body's step over what the point before left, from anything before the first point. -/
def outsAt (hO : Ok m) (c : Dev nD) : (n : ℕ) → n < (cfgM m hO).N → Vec F S256x2816 .bf16
  | 0, hn => stepOut c (grid0.coords ⟨0, hn⟩) (iblk m hO c 0 ⟨0, hn⟩) (iblk m hO c 1 ⟨0, hn⟩) (iblk m hO c 2 ⟨0, hn⟩) (iblk m hO c 3 ⟨0, hn⟩) (tbl m 0) k0_pay2
  | n + 1, hn => stepOut c (grid0.coords ⟨n + 1, hn⟩) (iblk m hO c 0 ⟨n + 1, hn⟩) (iblk m hO c 1 ⟨n + 1, hn⟩) (iblk m hO c 2 ⟨n + 1, hn⟩) (iblk m hO c 3 ⟨n + 1, hn⟩) (tbl m 0)
      (outsAt hO c n (Nat.lt_of_succ_lt hn))

/-- The step at a point past the first, over what the point before left. -/
theorem outsAt_pos (hO : Ok m) (c : Dev nD) (t : Fin (cfgM m hO).N) (ht : t.val ≠ 0) :
    outsAt m hO c t.val t.isLt = stepOut c (grid0.coords t) (iblk m hO c 0 t) (iblk m hO c 1 t) (iblk m hO c 2 t) (iblk m hO c 3 t) (tbl m 0)
      (outsAt m hO c (t.val - 1) (Nat.lt_of_le_of_lt (Nat.sub_le _ _) t.isLt)) := by
  obtain ⟨n, hn⟩ := t
  cases n with
  | zero => exact absurd rfl ht
  | succ n => rfl

/-- The step at the first point, over anything. -/
theorem outsAt_zero (hO : Ok m) (c : Dev nD) (t : Fin (cfgM m hO).N) (ht : t.val = 0) (d : Vec F S256x2816 .bf16) :
    outsAt m hO c t.val t.isLt = stepOut c (grid0.coords t) (iblk m hO c 0 t) (iblk m hO c 1 t) (iblk m hO c 2 t) (iblk m hO c 3 t) (tbl m 0) d := by
  obtain ⟨n, hn⟩ := t
  obtain rfl : n = 0 := ht
  exact stepOut_first c _ ((cond1_iff _).mpr rfl) _ _ _ _ _ _ _

/-! ## The pipeline's proof data -/

/-- The arrays as the region finds them; after the body at point `t` each input's buffer at its block and the output's at
    `outsAt`; the invariant the scoped rest, the generator register and the table's half; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (outsAt m hO c t.val t.isLt) := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d

/-! ## Idle points -/

/-- A table's word at offsets inside the table. -/
theorem atD_eq {pre : Pipeline.Prefetch sig} (pf : pre.Contents (Elt F)) (k : Fin pre.K) [Inhabited (Elt F (pre.ref k).ty.elt)]
    (off : Fin (pre.ref k).ty.shape.rank → ℕ) (h : ∀ a, off a + 1 ≤ (pre.ref k).ty.shape.size a) :
    pf.atD k off = pf k (fun a => ⟨off a, h a⟩) := dif_pos h

/-- The output is idle at a point exactly where both conditions of the body fail. -/
theorem idle_iff (hO : Ok m) (t : Fin (cfgM m hO).N) :
    (cfgM m hO).idle 4 (grid0.coords t) = true ↔ ¬ k0_cond1 (grid0.coords t) = 1#1 ∧ ¬ k0_cond2 (word (tbl m) (grid0.coords t 0)) = 1#1 := by
  have hD : (tbl m).atD 0 (k0_off1 (grid0.coords t)) = word (tbl m) (grid0.coords t 0) := by
    rw [← at_off1]
    refine (atD_eq (tbl m) 0 (k0_off1 (grid0.coords t)) fun a => by fin_cases a; exact k0_off1_inb (grid0.coords t) 0).trans ?_
    exact congrArg (tbl m 0) (funext fun a => Fin.ext (by fin_cases a; rfl))
  show ((!(k0_cond1 (grid0.coords t) == 1#1)) && !(k0_cond2 ((tbl m).atD 0 (k0_off1 (grid0.coords t))) == 1#1)) = true ↔ _
  rw [hD]
  simp

/-- At an idle point the output holds what it held at the point before. -/
theorem after_idle (hO : Ok m) (c : Dev nD) (t : Fin (cfgM m hO).N) (ht : t.val ≠ 0) (hi : (cfgM m hO).idle 4 (grid0.coords t) = true) :
    outsAt m hO c t.val t.isLt = outsAt m hO c (t.val - 1) (Nat.lt_of_le_of_lt (Nat.sub_le _ _) t.isLt) := by
  obtain ⟨h1, h2⟩ := (idle_iff m hO t).mp hi
  rw [outsAt_pos m hO c t ht]
  exact stepOut_idle c _ h1 _ _ _ _ _ _ (by rw [size_word]; exact h2)

/-- Past the first point the output's buffer always holds something the body stored: the first point stores, and the block
    is written back at the last point only. -/
theorem fresh_pos (hO : Ok m) : ∀ n, n < 31 → (cfgM m hO).fresh 4 (n + 1) = false := by
  have hN : (cfgM m hO).N = 32 := N_0
  have hf : ∀ n (h : n < (cfgM m hO).N), n < 31 → ((cfgM m hO).win 4).flush ⟨n, h⟩ = false := fun n h h' =>
    Bool.eq_false_iff.mpr fun hc => by have := (flush_4 (adm m hO) ⟨n, h⟩).mp hc; dsimp only at this; omega
  intro n
  induction n with
  | zero =>
    intro h
    have h0 : 0 < (cfgM m hO).N := by omega
    rw [Pipeline.Cfg.fresh_succ _ 4 0 h0, hf 0 h0 h, Bool.false_or]
    have : (cfgM m hO).idle 4 (grid0.coords ⟨0, h0⟩) = false := by
      rw [Bool.eq_false_iff]; intro hc
      exact ((idle_iff m hO ⟨0, h0⟩).mp hc).1 ((cond1_iff _).mpr rfl)
    exact (congrArg (· && _) this).trans (Bool.false_and _)
  | succ n ih =>
    intro h
    rw [Pipeline.Cfg.fresh_succ _ 4 (n + 1) (by omega), hf (n + 1) (by omega) h, ih (by omega), Bool.and_false, Bool.or_false]

/-- What the body finds in the output's buffer past the first point: what the point before left. -/
theorem before_4 (hO : Ok m) (c : Dev nD) (t : Fin (cfgM m hO).N) (ht : t.val ≠ 0) (d) :
    (dats m hO 0 c).before 4 t d = outsAt m hO c (t.val - 1) (Nat.lt_of_le_of_lt (Nat.sub_le _ _) t.isLt) := by
  have hN : t.val < 32 := lt_of_lt_of_eq t.isLt (show (cfgM m hO).N = 32 from N_0)
  obtain ⟨n, hn⟩ : ∃ n, t.val = n + 1 := ⟨t.val - 1, by omega⟩
  rw [(dats m hO 0 c).before_out_traj 4 rfl (fun _ _ => rfl)
    (fun t ht hi _ => by rw [after_4, after_4]; exact after_idle m hO c t ht hi) t.val t rfl d]
  rw [show (cfgM m hO).fresh 4 t.val = false from by rw [hn]; exact fresh_pos m hO n (by omega), if_neg Bool.false_ne_true, after_4]

/-! ## The body obligation -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t))

/-- What the body leaves over what it finds is `outsAt`, at the first point over anything. -/
theorem step_before (hO : Ok m) (c : Dev nD) (t : Fin (cfgM m hO).N) (d) :
    stepOut c (grid0.coords t) (iblk m hO c 0 t) (iblk m hO c 1 t) (iblk m hO c 2 t) (iblk m hO c 3 t) (tbl m 0) ((dats m hO 0 c).before 4 t d)
      = outsAt m hO c t.val t.isLt := by
  by_cases ht : t.val = 0
  · exact (outsAt_zero m hO c t ht _).symm
  · rw [before_4 m hO c t ht d]; exact (outsAt_pos m hO c t ht).symm

set_option maxHeartbeats 800000 in
/-- The body at any point: the inputs' buffers hold their blocks and the output's what the point before left, so the run
    applies; the invariant passes through; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  iintro ⟨⟨HΦ, HT0⟩, Ho, ⟨%d0, H0⟩, ⟨%d1, H1⟩, ⟨%d2, H2⟩, ⟨%d3, H3⟩, ⟨%d4, H4⟩⟩
  iapply ((bodyRun c (grid0.coords t) _ _ _ _ _ _ _ _ _ _ (iblk m hO c 0 t) (iblk m hO c 1 t) (iblk m hO c 2 t) (iblk m hO c 3 t) (tbl m 0) _).2 Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (bodyOut_eq c _ _ _ _ _ _ _ _ _ _ _ _ _ _ _ _ _).trans (step_before m hO c t d4)

/-- What the obligation asks of the output's buffer: at an idle point that does not write it back, what it held. -/
theorem hand_back (hO : Ok m) (c : Dev nD) (t : Fin (cfgM m hO).N) :
    owns (c : Thread nD τ) (ms_4 m hO t) fullShare ((dats m hO 0 c).after 4 t)
      ⊢ (match (cfgM m hO).idle 4 ((cfgM m hO).grid.coords t) with
          | true =>
            match ((cfgM m hO).win 4).flush t with
            | false => iprop(∃ d, owns (c : Thread nD τ) (ms_4 m hO t) fullShare ((dats m hO 0 c).before 4 t d))
            | true => owns (c : Thread nD τ) (ms_4 m hO t) fullShare ((dats m hO 0 c).after 4 t)
          | false => owns (c : Thread nD τ) (ms_4 m hO t) fullShare ((dats m hO 0 c).after 4 t) : sProp 𝕄) := by
  cases hi : (cfgM m hO).idle 4 ((cfgM m hO).grid.coords t) with
  | false => exact .rfl
  | true =>
    cases ((cfgM m hO).win 4).flush t with
    | true => exact .rfl
    | false =>
      have ht : t.val ≠ 0 := fun h => ((idle_iff m hO t).mp hi).1 ((cond1_iff t).mpr h)
      have key : ∀ d, owns (c : Thread nD τ) (ms_4 m hO t) fullShare ((dats m hO 0 c).after 4 t)
          ⊢ (owns (c : Thread nD τ) (ms_4 m hO t) fullShare ((dats m hO 0 c).before 4 t d) : sProp 𝕄) := fun d => by
        rw [after_4, after_idle m hO c t ht hi, before_4 m hO c t ht d]
      iintro H
      iexists ((dats m hO 0 c).after 4 t)
      iapply (key _)
      iexact H

/-- The library's body obligation, at every point. -/
theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  exact sep_mono .rfl (sep_mono .rfl (sep_mono .rfl (sep_mono .rfl (sep_mono .rfl (sep_mono .rfl (hand_back m hO c t))))))

/-! ## The run and the frame -/

-- the library theorem's implicit arguments are found by unifying its conclusion with this one
set_option backward.isDefEq.respectTransparency.types false in
/-- The launch: every final state has the pipeline's arrays as the proof data says, every other buffer as found, and every
    semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The table read off any launch memory satisfies the side condition. -/
theorem ok : Ok m := ok_all (tbl m)

/-- The launch, its arrays. -/
theorem run_main : θ_run defs (onTc (τ := τ) (main (F := F))) (s₀ m ρ) (Pipeline.FramePost (Pipeline.pin pcfgs fun _ => adm m (ok m)) (dats m (ok m)) 0 (V m)) :=
  (θ_run defs _ _).mono (fun _ h => h.1) (run_main_quiescent m ρ (ok m))

/-- The frame, at any float values and from any memory: the run ends with the arguments unchanged and every semaphore at
    zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (ok m) (dats m (ok m)) (A_eq m (ok m)) (run_main m ρ)) ((θ_run defs _ _).mono (fun _ h => h.2) (run_main_quiescent m ρ (ok m)))

end Cert.KernelIdeal.Grouped

end
-- ==== Proof.Transfer.lean ====
module

public import proofs.«01_k».proof.Defs
public import proofs.«01_k».proof.Proof.Gen.Kernel
public import proofs.«01_k».proof.Proof.Frame

/-! # The kernel's program and the ideal kernel's are one program

No operation was rewritten, so the two printed modules agree word for word. The facts here say so of `main`, of the
kernel's body and of the body table; what is proved of the ideal kernel's program at an arbitrary reading of the floats
therefore holds of the kernel's. -/

@[expose] public section
noncomputable section
namespace Cert.KernelIdeal.Grouped
open Idealize.ShloMosaic Idealize.SL.Sem

variable {F : FTy → Type} [FloatOps F]

/-- The two `main`s are equal. -/
theorem same_main : Cert.Kernel.main (F := F) = Cert.KernelIdeal.main (F := F) := rfl

/-- The two kernel bodies are equal. -/
theorem same_body : @Cert.Kernel.cc0__body F _ _ = @Cert.KernelIdeal.cc0__body F _ _ := rfl

/-- The two body tables are equal. -/
theorem same_defs0 : (Cert.Kernel.defs₀ (F := F)) = (Cert.KernelIdeal.defs₀ (F := F)) := by
  unfold Cert.Kernel.defs₀ Cert.KernelIdeal.defs₀
  refine congrArg Defs.onTc (funext fun ℓ => funext fun a => ?_)
  match ℓ, a with
  | ⟨0, _⟩, (t, s) => rfl
  | ⟨n + 1, h⟩, _ => exact absurd h (Nat.not_lt.2 (Nat.le_add_left _ _))

/-- The two pipelines are equal. -/
theorem same_pcfgs : Cert.Kernel.pcfgs (F := F) = Cert.KernelIdeal.pcfgs (F := F) := rfl

/-- The two programs' tables, kernels and pipelines together, are equal. -/
theorem same_defs : Cert.Kernel.defs (F := F) = Cert.KernelIdeal.defs (F := F) :=
  congrArg (fun d => Pipeline.defs (Cert.KernelIdeal.pcfgs (F := F)) d) same_defs0

/-- The kernel's program is the ideal kernel's, so its frame is the frame already proved. -/
theorem quiescent_kernel : Cert.quiescent_Kernel := by
  intro m ρ _
  have h := Cert.KernelIdeal.Grouped.frame (F := Bits) m ρ
  rw [← same_defs (F := Bits), ← same_main (F := Bits)] at h
  exact h

end Cert.KernelIdeal.Grouped
end
-- ==== Proof.Blocks.lean ====
/- The input windows' blocks, read at an index: where in its array an element of a block lies. -/
module

public import proofs.«01_k».proof.Proof.Frame
public import Idealize.ShloMosaic.Lib.Pointwise
public import Idealize.ShloMosaic.Lib.Pipeline.Value

@[expose] public section

set_option maxRecDepth 16384

noncomputable section

namespace Cert.KernelIdeal.Grouped

open Cert.KernelIdeal.Gen
open Idealize.ShloMosaic

variable {F : FTy → Type} [FloatOps F]

variable (m : (ℓ : Loc nD τ sig) → Buf (Elt F) ℓ)

/-- The codes' block is the whole array, -/
theorem block_x (hO : Ok m) (c : Dev nD) (t : Fin (cfgM m hO).N) (r : Fin 256) (k : Fin 2816) :
    (iblk m hO c 0 t : Vec F S256x2816 .fp8e4m3) (ix2 r k) = (V m c main_arg0 : Vec F S256x2816 .fp8e4m3) (ix2 r k) := by
  refine congrArg (V m c main_arg0) (funext fun a => Fin.ext ?_)
  refine (Pipeline.Window.rect_emb_val_of_index_zero ((cfgM m hO).win 0) t a ?_ (ix2 r k)).trans ?_
  · fin_cases a <;> rfl
  · rfl

/-- so is the row scales', -/
theorem block_xs (hO : Ok m) (c : Dev nD) (t : Fin (cfgM m hO).N) (r : Fin 256) (k : Fin 1) :
    (iblk m hO c 1 t : Vec F S256x1 .f32) (ix2 r k) = (V m c main_arg1 : Vec F S256x1 .f32) (ix2 r k) := by
  refine congrArg (V m c main_arg1) (funext fun a => Fin.ext ?_)
  refine (Pipeline.Window.rect_emb_val_of_index_zero ((cfgM m hO).win 1) t a ?_ (ix2 r k)).trans ?_
  · fin_cases a <;> rfl
  · rfl

/-- and the column scales'. -/
theorem block_ws (hO : Ok m) (c : Dev nD) (t : Fin (cfgM m hO).N) (e : Fin 16) (j : Fin 2816) :
    (iblk m hO c 3 t : Vec F S16x2816 .f32) (ix2 e j) = (V m c main_arg4 : Vec F S16x2816 .f32) (ix2 e j) := by
  refine congrArg (V m c main_arg4) (funext fun a => Fin.ext ?_)
  refine (Pipeline.Window.rect_emb_val_of_index_zero ((cfgM m hO).win 3) t a ?_ (ix2 e j)).trans ?_
  · fin_cases a <;> rfl
  · rfl

/-- At a point whose group is not empty the weights' block is the point's half of its expert's columns. -/
theorem block_w (hO : Ok m) (c : Dev nD) (t : Fin (cfgM m hO).N) (hg : 0 < (word (tbl m) (grid0.coords t 0)).toInt)
    (k : Fin 2816) (j : Fin 1408) (e : Fin 16) (he : e.val = (grid0.coords t 0).val) (y : Fin 2816) (hy : y.val = (grid0.coords t 1).val * 1408 + j.val) :
    (iblk m hO c 2 t : Vec F S1x2816x1408 .fp8e4m3) (ix3 0 k j) = (V m c main_arg3 : Vec F S16x2816x2816 .fp8e4m3) (ix3 e k y) := by
  have hw : ((cfgM m hO).win 2).index t = ![(grid0.coords t 0).val, 0, (grid0.coords t 1).val] := wmap_nonempty (tbl m) (grid0.coords t) hg
  refine congrArg (V m c main_arg3) (funext fun a => Fin.ext ?_)
  refine (Pipeline.Window.rect_emb_val ((cfgM m hO).win 2) t (ix3 0 k j) a).trans ?_
  rw [hw]
  fin_cases a
  · show (grid0.coords t 0).val * 1 + 0 = e.val; omega
  · show 0 * 2816 + k.val = k.val; omega
  · show (grid0.coords t 1).val * 1408 + j.val = y.val; omega

end Cert.KernelIdeal.Grouped

end
-- ==== Proof.Sizes.lean ====
/- The groups' rows. Group `e` takes `g e` rows, after those of the groups before it. Where no size is negative and the
   sixteen do not overflow, the groups' rows are disjoint and in order. -/
module

public import Idealize.ShloMosaic.Lib.WordSum
public import Mathlib.Data.BitVec
public import Mathlib.Algebra.BigOperators.Fin
public import Mathlib.Algebra.Order.BigOperators.Group.Finset

@[expose] public section

noncomputable section

namespace Cert.Groups

/-- The first row of group `e`, as a word: the sizes of the groups before it, added. -/
def start (g : Fin 16 → BitVec 32) (e : Fin 16) : BitVec 32 := ∑ i, if i < e then g i else 0

/-- Row `r` is one of group `e`'s. -/
def Mem (g : Fin 16 → BitVec 32) (e : Fin 16) (r : ℕ) : Prop :=
  (start g e).toInt ≤ (r : ℤ) ∧ (r : ℤ) < (start g e + g e).toInt

/-- The first row of group `e`, as a number. -/
def first (g : Fin 16 → BitVec 32) (e : Fin 16) : ℕ := ∑ i, if i < e then (g i).toNat else 0

/-- The sizes, as numbers, add without overflow: no group ends past the largest row number a word can hold. -/
def Small (g : Fin 16 → BitVec 32) : Prop := ∀ e, first g e + (g e).toNat < 2 ^ 31

theorem toNat_start_of_lt {g : Fin 16 → BitVec 32} {e : Fin 16} (h : first g e < 2 ^ 32) : (start g e).toNat = first g e := by
  have e1 : ∀ i, (if i < e then g i else 0).toNat = if i < e then (g i).toNat else 0 := fun i => by
    split <;> rfl
  unfold first at h
  unfold start first
  rw [Idealize.ShloMosaic.WordSum.toNat_sum _ _ (by rw [Finset.sum_congr rfl fun i _ => e1 i]; omega), Finset.sum_congr rfl fun i _ => e1 i]

theorem first_zero (g : Fin 16 → BitVec 32) : first g 0 = 0 := Finset.sum_eq_zero fun i _ => if_neg (Fin.not_lt_zero i)

theorem first_succ (g : Fin 16 → BitVec 32) (n : ℕ) (h : n + 1 < 16) :
    first g ⟨n + 1, h⟩ = first g ⟨n, Nat.lt_of_succ_lt h⟩ + (g ⟨n, Nat.lt_of_succ_lt h⟩).toNat := by
  have : (g ⟨n, Nat.lt_of_succ_lt h⟩).toNat = ∑ i, if i = ⟨n, Nat.lt_of_succ_lt h⟩ then (g i).toNat else 0 := by simp
  rw [this, first, first, ← Finset.sum_add_distrib]
  refine Finset.sum_congr rfl fun i _ => ?_
  simp only [Fin.lt_def, Fin.ext_iff]
  split_ifs <;> omega

/-- Where no size is negative and no running sum of them is, they add without overflow: the first that overflowed would show as a
    negative running sum. -/
theorem small_of_nonneg {g : Fin 16 → BitVec 32} (h : ∀ e, 0 ≤ (g e).toInt ∧ 0 ≤ (start g e + g e).toInt) : Small g := by
  have step : ∀ e, first g e < 2 ^ 31 → first g e + (g e).toNat < 2 ^ 31 := fun e hf => by
    obtain ⟨h1, h2⟩ := h e
    have hs := toNat_start_of_lt (g := g) (e := e) (by omega)
    have c1 := BitVec.toInt_eq_toNat_cond (g e)
    have c2 := BitVec.toInt_eq_toNat_cond (start g e + g e)
    have hadd : (start g e + g e).toNat = (first g e + (g e).toNat) % 2 ^ 32 := by rw [BitVec.toNat_add, hs]
    have := (g e).isLt
    have := (start g e + g e).isLt
    split at c1 <;> split at c2 <;> omega
  have all : ∀ (n : ℕ) (hn : n < 16), first g ⟨n, hn⟩ < 2 ^ 31 := fun n => by
    induction n with
    | zero => exact fun _ => lt_of_eq_of_lt (first_zero g) (by decide)
    | succ n ih => exact fun hn => by rw [first_succ g n hn]; exact step _ (ih _)
  exact fun e => step e (all e.val e.isLt)

theorem first_add_lt {g : Fin 16 → BitVec 32} (h : Small g) (e : Fin 16) : first g e + (g e).toNat < 2 ^ 31 := h e

theorem toNat_start {g : Fin 16 → BitVec 32} (h : Small g) (e : Fin 16) : (start g e).toNat = first g e :=
  toNat_start_of_lt (by have := h e; omega)

theorem toInt_start {g : Fin 16 → BitVec 32} (h : Small g) (e : Fin 16) : (start g e).toInt = first g e := by
  have := toNat_start h e
  have := first_add_lt h e
  rw [BitVec.toInt_eq_toNat_of_lt (by omega)]; omega

theorem toInt_stop {g : Fin 16 → BitVec 32} (h : Small g) (e : Fin 16) :
    (start g e + g e).toInt = first g e + (g e).toNat := by
  have h1 := toNat_start h e
  have h2 := first_add_lt h e
  have h3 : (start g e + g e).toNat = first g e + (g e).toNat := by
    rw [BitVec.toNat_add, h1]; omega
  rw [BitVec.toInt_eq_toNat_of_lt (by omega), h3]; push_cast; rfl

/-- Row `r` is group `e`'s when it lies in the range of numbers that the group takes. -/
theorem mem_iff {g : Fin 16 → BitVec 32} (h : Small g) (e : Fin 16) (r : ℕ) :
    Mem g e r ↔ first g e ≤ r ∧ r < first g e + (g e).toNat := by
  unfold Mem
  rw [toInt_start h, toInt_stop h]; omega

/-- A later group starts after an earlier one's last row. -/
theorem first_step {g : Fin 16 → BitVec 32} {e e' : Fin 16} (hee : e < e') : first g e + (g e).toNat ≤ first g e' := by
  have : (g e).toNat = ∑ i, if i = e then (g i).toNat else 0 := by simp
  rw [this, first, first, ← Finset.sum_add_distrib]
  refine Finset.sum_le_sum fun i _ => ?_
  by_cases h1 : i < e
  · rw [if_pos h1, if_neg (ne_of_lt h1), if_pos (lt_trans h1 hee)]; omega
  · by_cases h2 : i = e
    · subst h2; rw [if_neg h1, if_pos rfl, if_pos hee]; omega
    · rw [if_neg h1, if_neg h2]; omega

/-- A row is in one group at most. -/
theorem mem_unique {g : Fin 16 → BitVec 32} (h : Small g) {e e' : Fin 16} {r : ℕ} (h1 : Mem g e r) (h2 : Mem g e' r) : e = e' := by
  rw [mem_iff h] at h1 h2
  rcases lt_trichotomy e e' with hl | he | hl
  · have := first_step (g := g) hl; omega
  · exact he
  · have := first_step (g := g) hl; omega

/-- Of a row of group `e`, the groups that start at or before it are those up to `e`. -/
theorem start_le_iff {g : Fin 16 → BitVec 32} (h : Small g) {e : Fin 16} {r : ℕ} (h1 : Mem g e r) (e' : Fin 16) :
    (start g e').toInt ≤ (r : ℤ) ↔ e' ≤ e := by
  rw [mem_iff h] at h1
  rw [toInt_start h]
  constructor
  · intro hr
    by_contra hc
    have := first_step (g := g) (lt_of_not_ge hc); omega
  · intro hle
    rcases lt_or_eq_of_le hle with hl | he
    · have := first_step (g := g) hl; omega
    · subst he; omega

/-- A group that has a row has a positive size. -/
theorem size_pos {g : Fin 16 → BitVec 32} (h : Small g) {e : Fin 16} {r : ℕ} (h1 : Mem g e r) : 0 < (g e).toInt := by
  rw [mem_iff h] at h1
  have := h e
  rw [BitVec.toInt_eq_toNat_of_lt (by omega)]; omega

end Cert.Groups

end
-- ==== Proof.Start.lean ====
/- The group's first row as the body computes it: it adds, over the sixteen groups in turn, the size of each that comes
   before the point's group, and zero for each other. That is `Cert.Groups.start`. -/
module

public import proofs.«01_k».proof.Proof.Frame
public import proofs.«01_k».proof.Proof.Sizes

@[expose] public section

set_option maxRecDepth 16384

noncomputable section

namespace Cert.KernelIdeal.Grouped

open Idealize.ShloMosaic

variable {F : FTy → Type} [FloatOps F]

/-- The sum after `n` of the groups. -/
def sumUpto (g : Fin 16 → BitVec 32) (e : ℕ) : ℕ → BitVec 32
  | 0 => 0#32
  | n + 1 => Scalar.addi (sumUpto g e n) (Scalar.select (Scalar.cmpi .sgt (BitVec.ofNat 32 e) (BitVec.ofNat 32 n)) (if h : n < 16 then g ⟨n, h⟩ else 0) 0#32)

/-- A group's number is above another's as words exactly when it is as numbers. -/
theorem sgt_small (a b : ℕ) (ha : a < 16) (hb : b < 16) : Scalar.cmpi .sgt (BitVec.ofNat 32 a) (BitVec.ofNat 32 b) = 1#1 ↔ b < a := by
  word_cmp

theorem sumUpto_eq (g : Fin 16 → BitVec 32) (e : Fin 16) : ∀ n, n ≤ 16 →
    sumUpto g e.val n = ∑ i : Fin 16, if i.val < n ∧ i < e then g i else 0
  | 0, _ => by simp [sumUpto]
  | n + 1, hn => by
    have hn' : n < 16 := by omega
    have ih := sumUpto_eq g e n (by omega)
    have one : (if n < e.val then g ⟨n, hn'⟩ else 0) = ∑ i : Fin 16, if i.val = n ∧ i < e then g i else 0 := by
      rw [Finset.sum_eq_single (⟨n, hn'⟩ : Fin 16)]
      · simp [Fin.lt_def]
      · intro i _ hi
        rw [if_neg fun q => hi (Fin.ext q.1)]
      · intro h; exact absurd (Finset.mem_univ _) h
    have sel : Scalar.select (Scalar.cmpi .sgt (BitVec.ofNat 32 e.val) (BitVec.ofNat 32 n)) (if h : n < 16 then g ⟨n, h⟩ else 0) 0#32
        = if n < e.val then g ⟨n, hn'⟩ else 0 := by
      by_cases h : n < e.val
      · rw [select_true ((sgt_small _ _ e.isLt hn').mpr h), dif_pos hn', if_pos h]
      · rw [select_false (fun q => h ((sgt_small _ _ e.isLt hn').mp q)), if_neg h]; rfl
    show sumUpto g e.val n + _ = _
    rw [sel, ih, one, ← Finset.sum_add_distrib]
    refine Finset.sum_congr rfl fun i _ => ?_
    by_cases he : i < e
    · by_cases h1 : i.val < n
      · rw [if_pos ⟨h1, he⟩, if_neg (fun q => absurd q.1 (by omega)), if_pos ⟨by omega, he⟩, add_zero]
      · by_cases h2 : i.val = n
        · rw [if_neg (fun q => h1 q.1), if_pos ⟨h2, he⟩, if_pos ⟨by omega, he⟩, zero_add]
        · rw [if_neg (fun q => h1 q.1), if_neg (fun q => h2 q.1), if_neg (fun q => absurd q.1 (by omega)), add_zero]
    · rw [if_neg (fun q => he q.2), if_neg (fun q => he q.2), if_neg (fun q => he q.2), add_zero]

/-- The word that the body computes as its group's first row. -/
theorem start_word (c : Dev nD) (i : grid0.Coords) (pf : pre0.Contents (Elt F)) :
    Scalar.addi (bodyRun.sl.v64 c i (pf 0)) (Scalar.select (bodyRun.sl.v65 i) (bodyRun.sl.r_15 c (pf 0)) 0#32) = Cert.Groups.start (word pf) (i 0) := by
  have h : Scalar.addi (bodyRun.sl.v64 c i (pf 0)) (Scalar.select (bodyRun.sl.v65 i) (bodyRun.sl.r_15 c (pf 0)) 0#32) = sumUpto (word pf) (i 0).val 16 := rfl
  refine h.trans ((sumUpto_eq (word pf) (i 0) 16 le_rfl).trans ?_)
  unfold Cert.Groups.start
  exact Finset.sum_congr rfl fun k _ => if_congr ⟨fun q => q.2, fun q => ⟨k.isLt, q⟩⟩ rfl rfl

end Cert.KernelIdeal.Grouped

end
-- ==== Proof.Payload.lean ====
/- What the body stores, read at an index, over the extended reals. -/
module

public import proofs.«01_k».proof.Proof.Frame
public import proofs.«01_k».proof.Proof.Sizes
public import Idealize.ShloMosaic.Lib.Pointwise
public import Idealize.ShloMosaic.Lib.ValueIdx

@[expose] public section

set_option maxRecDepth 16384

noncomputable section

namespace Cert.KernelIdeal.Grouped

open Cert.KernelIdeal.Gen
open Idealize.ShloMosaic

/-- Both comparisons of a row's word hold exactly when the row is from the first bound on and before the second. -/
theorem between_iff (r : ℕ) (hr : r < 256) (a b : BitVec 32) :
    IntOp.andi (IntOp.cmpi .sge (BitVec.ofNat 32 r) a) (IntOp.cmpi .slt (BitVec.ofNat 32 r) b) = 1#1 ↔ a.toInt ≤ r ∧ r < b.toInt := by
  have er : (BitVec.ofNat 32 r).toInt = r := by
    rw [BitVec.toInt_eq_toNat_of_lt] <;> simp only [BitVec.toNat_ofNat] <;> omega
  rw [WordCmp.cmpi_sge_eq, WordCmp.cmpi_slt_eq, er]
  by_cases h1 : a.toInt ≤ r <;> by_cases h2 : (r : ℤ) < b.toInt <;> simp [h1, h2, IntOp.andi]

/-- The value the body stores at row `r` and column `j` of its half: the scaled product where the row is in the group,
    what was there before elsewhere. -/
theorem pay1_apply (v64 : BitVec 32) (v65 : BitVec 1) (v66 v70 : BitVec 32) (x : Vec Ideal S256x2816 .fp8e4m3) (w : Vec Ideal S1x2816x1408 .fp8e4m3)
    (xs : Vec Ideal S256x1 .f32) (ws : Vec Ideal S1x1408 .f32) (old : Vec Ideal S256x1408 .bf16) (r : Fin 256) (j : Fin 1408) :
    k0_pay1 (F := Ideal) v64 v65 v66 v70 x w xs ws old (ix2 r j)
      = if (Scalar.addi v64 (Scalar.select v65 v66 0#32)).toInt ≤ r.val ∧ r.val < (Scalar.addi v64 (Scalar.select v65 v66 0#32) + v70).toInt
        then (∑ k : Fin 2816, x (ix2 r k) * w (ix3 0 k j)) * xs (ix2 r 0) * ws (ix2 0 j) else old (ix2 r j) := by
  unfold k0_pay1
  pointwise
  exact if_congr (between_iff r.val r.isLt _ _) rfl rfl

end Cert.KernelIdeal.Grouped

end
-- ==== Proof.Step.lean ====
/- One step of the body, read at an index, over the extended reals: where it stores, and what. -/
module

public import proofs.«01_k».proof.Proof.Start
public import proofs.«01_k».proof.Proof.Payload

@[expose] public section

set_option maxRecDepth 16384

noncomputable section

namespace Cert.KernelIdeal.Grouped

open Cert.KernelIdeal.Gen
open Idealize.ShloMosaic

/-- The slice of the output starts at the point's half of the columns. -/
theorem off3_eq (i : grid0.Coords) : k0_off3 i = ![0, (i 1).val * 1408] := by
  have h : (i 1).val < 2 := (i 1).isLt
  obtain ⟨n, hn⟩ : ∃ n, n = (i 1).val := ⟨_, rfl⟩
  unfold k0_off3
  simp only [← hn] at h ⊢
  interval_cases n <;> rfl

/-- So does the row of column scales, at the point's expert. -/
theorem off2_eq (i : grid0.Coords) : k0_off2 i = ![(i 0).val, (i 1).val * 1408] := by
  have h : (i 1).val < 2 := (i 1).isLt
  have h' : (i 0).val < 16 := (i 0).isLt
  obtain ⟨n, hn⟩ : ∃ n, n = (i 1).val := ⟨_, rfl⟩
  obtain ⟨e, he⟩ : ∃ e, e = (i 0).val := ⟨_, rfl⟩
  unfold k0_off2
  simp only [← hn, ← he] at h h' ⊢
  interval_cases n <;> interval_cases e <;> rfl

/-- What a point starts from: zero at the first point, what the point before left at the others. -/
def base (i : grid0.Coords) (xo : Vec Ideal S256x2816 .bf16) : Vec Ideal S256x2816 .bf16 := if k0_cond1 i = 1#1 then k0_pay2 (F := Ideal) else xo

theorem base_first (i : grid0.Coords) (h : k0_cond1 i = 1#1) (xo : Vec Ideal S256x2816 .bf16) (r : Fin 256) (y : Fin 2816) : base i xo (ix2 r y) = 0 := by
  unfold base; rw [if_pos h]
  unfold k0_pay2
  pointwise

theorem base_later (i : grid0.Coords) (h : ¬ k0_cond1 i = 1#1) (xo : Vec Ideal S256x2816 .bf16) : base i xo = xo := if_neg h

/-- A slice stored over a half of the columns, read inside the half -/
theorem put_in {α : Type} (x : S256x2816.Idx → α) (off : Fin 2 → ℕ) (h : ℕ) (ho : off = ![0, h * 1408]) (w : S256x1408.Idx → α)
    (r : Fin 256) (y : Fin 2816) (j : Fin 1408) (hy : y.val = h * 1408 + j.val) :
    VecWindow.put (s := S256x2816) x off S256x1408.size w (ix2 r y) = w (ix2 r j) := by
  subst ho
  have hin : ∀ a : Fin 2, (![0, h * 1408] : Fin 2 → ℕ) a ≤ ((ix2 r y : S256x2816.Idx) a).val
      ∧ ((ix2 r y : S256x2816.Idx) a).val < (![0, h * 1408] : Fin 2 → ℕ) a + S256x1408.size a := by
    intro a
    fin_cases a
    · exact ⟨Nat.zero_le _, by show r.val < 0 + 256; omega⟩
    · exact ⟨by show h * 1408 ≤ y.val; omega, by show y.val < h * 1408 + 1408; omega⟩
  refine (dif_pos hin).trans (congrArg w (funext fun a => Fin.ext ?_))
  fin_cases a
  · rfl
  · show y.val - h * 1408 = j.val; omega

/-- and outside it. -/
theorem put_out {α : Type} (x : S256x2816.Idx → α) (off : Fin 2 → ℕ) (h : ℕ) (ho : off = ![0, h * 1408]) (w : S256x1408.Idx → α)
    (r : Fin 256) (y : Fin 2816) (hy : ¬ y.val / 1408 = h) :
    VecWindow.put (s := S256x2816) x off S256x1408.size w (ix2 r y) = x (ix2 r y) := by
  subst ho
  refine dif_neg fun hin => hy ?_
  have h1 : h * 1408 ≤ y.val := (hin 1).1
  have h2 : y.val < h * 1408 + 1408 := (hin 1).2
  omega

/-- The payload at a place, over the slices the body loads. -/
theorem pay_at (c : Dev nD) (i : grid0.Coords) (x0 : Vec Ideal S256x2816 .fp8e4m3) (x1 : Vec Ideal S256x1 .f32) (x2 : Vec Ideal S1x2816x1408 .fp8e4m3)
    (x3 : Vec Ideal S16x2816 .f32) (pf : pre0.Contents (Elt Ideal)) (b : Vec Ideal S256x2816 .bf16) (r : Fin 256) (y : Fin 2816) (j : Fin 1408)
    (hy : y.val = (i 1).val * 1408 + j.val) (e : Fin 16) (he : e.val = (i 0).val) :
    k0_pay1 (F := Ideal) (bodyRun.sl.v64 c i (pf 0)) (bodyRun.sl.v65 i) (bodyRun.sl.r_15 c (pf 0)) (bodyRun.sl.r_16 c i (pf 0)) x0 x2 x1
        (VecWindow.window (s := S16x2816) x3 (k0_off2 i) S1x1408.size (k0_off2_inb i)) (VecWindow.window (s := S256x2816) b (k0_off3 i) S256x1408.size (k0_off3_inb i)) (ix2 r j)
      = if (Cert.Groups.start (word pf) e).toInt ≤ r.val ∧ r.val < (Cert.Groups.start (word pf) e + word pf e).toInt
        then (∑ k : Fin 2816, x0 (ix2 r k) * x2 (ix3 0 k j)) * x1 (ix2 r 0) * x3 (ix2 e y) else b (ix2 r y) := by
  obtain rfl : e = i 0 := Fin.ext he
  have hx3 : VecWindow.window (s := S16x2816) x3 (k0_off2 i) S1x1408.size (k0_off2_inb i) (ix2 0 j) = x3 (ix2 (i 0) y) := by
    refine congrArg x3 (funext fun a => Fin.ext ?_)
    show k0_off2 i a + 1 * ((ix2 0 j : S1x1408.Idx) a).val = _
    rw [off2_eq]
    fin_cases a
    · show (i 0).val + 1 * 0 = (i 0).val; omega
    · show (i 1).val * 1408 + 1 * j.val = y.val; omega
  have hb : VecWindow.window (s := S256x2816) b (k0_off3 i) S256x1408.size (k0_off3_inb i) (ix2 r j) = b (ix2 r y) := by
    refine congrArg b (funext fun a => Fin.ext ?_)
    show k0_off3 i a + 1 * ((ix2 r j : S256x1408.Idx) a).val = _
    rw [off3_eq]
    fin_cases a
    · show 0 + 1 * r.val = r.val; omega
    · show (i 1).val * 1408 + 1 * j.val = y.val; omega
  refine (pay1_apply _ _ _ _ _ _ _ _ _ r j).trans ?_
  rw [start_word, size_word, hx3, hb]

/-- A step at a place of the point's half of the columns, in a row of the point's group: the scaled product. -/
theorem step_hit (c : Dev nD) (i : grid0.Coords) (x0 : Vec Ideal S256x2816 .fp8e4m3) (x1 : Vec Ideal S256x1 .f32) (x2 : Vec Ideal S1x2816x1408 .fp8e4m3)
    (x3 : Vec Ideal S16x2816 .f32) (pf : pre0.Contents (Elt Ideal)) (xo : Vec Ideal S256x2816 .bf16) (r : Fin 256) (y : Fin 2816) (j : Fin 1408)
    (hy : y.val = (i 1).val * 1408 + j.val) (e : Fin 16) (he : e.val = (i 0).val) (hg : 0 < (word pf e).toInt) (hm : Cert.Groups.Mem (word pf) e r.val) :
    stepOut c i x0 x1 x2 x3 (pf 0) xo (ix2 r y) = (∑ k : Fin 2816, x0 (ix2 r k) * x2 (ix3 0 k j)) * x1 (ix2 r 0) * x3 (ix2 e y) := by
  have hc : k0_cond2 (bodyRun.sl.r_16 c i (pf 0)) = 1#1 := by
    rw [size_word, cond2_iff]; obtain rfl : e = i 0 := Fin.ext he; exact hg
  unfold stepOut
  dsimp only
  rw [if_pos hc]
  refine (put_in _ _ _ (off3_eq i) _ r y j hy).trans ?_
  refine (pay_at c i x0 x1 x2 x3 pf (base i xo) r y j hy e he).trans ?_
  exact if_pos hm

/-- A step anywhere else: what it started from. -/
theorem step_miss (c : Dev nD) (i : grid0.Coords) (x0 : Vec Ideal S256x2816 .fp8e4m3) (x1 : Vec Ideal S256x1 .f32) (x2 : Vec Ideal S1x2816x1408 .fp8e4m3)
    (x3 : Vec Ideal S16x2816 .f32) (pf : pre0.Contents (Elt Ideal)) (xo : Vec Ideal S256x2816 .bf16) (r : Fin 256) (y : Fin 2816)
    (e : Fin 16) (he : e.val = (i 0).val) (hm : ¬ (y.val / 1408 = (i 1).val ∧ Cert.Groups.Mem (word pf) e r.val)) :
    stepOut c i x0 x1 x2 x3 (pf 0) xo (ix2 r y) = base i xo (ix2 r y) := by
  unfold stepOut
  dsimp only
  by_cases hc : k0_cond2 (bodyRun.sl.r_16 c i (pf 0)) = 1#1
  · rw [if_pos hc]
    by_cases hh : y.val / 1408 = (i 1).val
    · have hy : y.val = (i 1).val * 1408 + y.val % 1408 := by omega
      refine (put_in _ _ _ (off3_eq i) _ r y ⟨y.val % 1408, Nat.mod_lt _ (by decide)⟩ hy).trans ?_
      refine (pay_at c i x0 x1 x2 x3 pf (base i xo) r y ⟨y.val % 1408, Nat.mod_lt _ (by decide)⟩ hy e he).trans ?_
      exact if_neg fun q => hm ⟨hh, q⟩
    · exact put_out _ _ _ (off3_eq i) _ r y hh
  · rw [if_neg hc]; rfl

end Cert.KernelIdeal.Grouped

end
-- ==== Proof.Spec.lean ====
/- What the grouped product is, as numbers: a row of group `e` is its codes times expert `e`'s matrix, scaled by the row's scale
   and by expert `e`'s column scales; a row of no group is zero. Both programs' results are shown to be this one. -/
module

public import proofs.«01_k».proof.Proof.Sizes
public import Idealize.ShloMosaic.Lib.Pointwise

@[expose] public section

noncomputable section

namespace Cert.Groups

/-- The scaled product of row `r` with column `y` of expert `e`. -/
def val (X : Fin 256 → Fin 2816 → EReal) (XS : Fin 256 → EReal) (W : Fin 16 → Fin 2816 → Fin 2816 → EReal) (WS : Fin 16 → Fin 2816 → EReal)
    (e : Fin 16) (r : Fin 256) (y : Fin 2816) : EReal := (∑ k, X r k * W e k y) * XS r * WS e y

/-- `o` is the grouped product: the scaled product in the rows of each group, zero in the rows of none. -/
def IsProduct (g : Fin 16 → BitVec 32) (v : Fin 16 → Fin 256 → Fin 2816 → EReal) (o : Fin 256 → Fin 2816 → EReal) : Prop :=
  ∀ r y, (∀ e, Mem g e r.val → o r y = v e r y) ∧ ((∀ e, ¬ Mem g e r.val) → o r y = 0)

/-- There is one grouped product. -/
theorem IsProduct.unique {g : Fin 16 → BitVec 32} {v : Fin 16 → Fin 256 → Fin 2816 → EReal} {o o' : Fin 256 → Fin 2816 → EReal}
    (h : IsProduct g v o) (h' : IsProduct g v o') (r : Fin 256) (y : Fin 2816) : o r y = o' r y := by
  by_cases he : ∃ e, Mem g e r.val
  · obtain ⟨e, he⟩ := he
    rw [(h r y).1 e he, (h' r y).1 e he]
  · have he' : ∀ e, ¬ Mem g e r.val := fun e q => he ⟨e, q⟩
    rw [(h r y).2 he', (h' r y).2 he']

end Cert.Groups

end
-- ==== Proof.KernelValue.lean ====
/- The kernel's result, over the extended reals. After each point the output's buffer holds the scaled product wherever the
   row's group and the column's half have been passed, and zero elsewhere; after the last point that is the grouped product. -/
module

public import proofs.«01_k».proof.Proof.Blocks
public import proofs.«01_k».proof.Proof.Step
public import proofs.«01_k».proof.Proof.Spec
public import Idealize.ShloMosaic.Lib.Pipeline.ValueKit

@[expose] public section

set_option maxRecDepth 16384

noncomputable section

namespace Cert.KernelIdeal.Grouped

open Cert.KernelIdeal.Gen Cert.Groups
open Idealize.ShloMosaic Idealize.ShloMosaic.TcCoe Idealize.SL.Sem

variable (m : (ℓ : Loc nD τ sig) → Buf (Elt Ideal) ℓ) (ρ : Dev nD → PrngReg)

/-- The scaled product of the arguments on core `c`. -/
def product (c : Dev nD) : Fin 16 → Fin 256 → Fin 2816 → EReal :=
  val (fun r k => (V m c main_arg0 : Vec Ideal S256x2816 .fp8e4m3) (ix2 r k)) (fun r => (V m c main_arg1 : Vec Ideal S256x1 .f32) (ix2 r 0))
    (fun e k y => (V m c main_arg3 : Vec Ideal S16x2816x2816 .fp8e4m3) (ix3 e k y)) (fun e y => (V m c main_arg4 : Vec Ideal S16x2816 .f32) (ix2 e y))

/-- The output's buffer after point `t`. -/
def Passed (c : Dev nD) (t : ℕ) (o : Vec Ideal S256x2816 .bf16) : Prop := ∀ (r : Fin 256) (y : Fin 2816),
  (∀ e : Fin 16, Mem (word (tbl m)) e r.val → 2 * e.val + y.val / 1408 ≤ t → o (ix2 r y) = product m c e r y)
  ∧ ((∀ e : Fin 16, Mem (word (tbl m)) e r.val → ¬ 2 * e.val + y.val / 1408 ≤ t) → o (ix2 r y) = 0)

/-- A step keeps it: `b` is what the step starts from, zero wherever nothing was passed before. -/
theorem passed_step (hs : Small (word (tbl m))) (c : Dev nD) (t : Fin (cfgM m (ok m)).N) (xo : Vec Ideal S256x2816 .bf16)
    (hb : ∀ (r : Fin 256) (y : Fin 2816),
      (∀ e : Fin 16, Mem (word (tbl m)) e r.val → 2 * e.val + y.val / 1408 < t.val → base (grid0.coords t) xo (ix2 r y) = product m c e r y)
      ∧ ((∀ e : Fin 16, Mem (word (tbl m)) e r.val → ¬ 2 * e.val + y.val / 1408 < t.val) → base (grid0.coords t) xo (ix2 r y) = 0)) :
    Passed m c t.val (stepOut c (grid0.coords t) (iblk m (ok m) c 0 t) (iblk m (ok m) c 1 t) (iblk m (ok m) c 2 t) (iblk m (ok m) c 3 t) (tbl m 0) xo) := by
  intro r y
  have ht : t.val < 32 := Nat.lt_of_lt_of_eq t.isLt N_0
  have hy := y.isLt
  have c0 : (grid0.coords t 0).val = t.val / 2 := coords_0 t
  have c1 : (grid0.coords t 1).val = t.val % 2 := coords_1 t
  let e₀ : Fin 16 := ⟨t.val / 2, by omega⟩
  have he₀ : e₀.val = (grid0.coords t 0).val := c0.symm
  by_cases hit : y.val / 1408 = (grid0.coords t 1).val ∧ Mem (word (tbl m)) e₀ r.val
  · obtain ⟨hh, hm⟩ := hit
    have hg := size_pos hs hm
    have hg' : 0 < (word (tbl m) (grid0.coords t 0)).toInt := by
      have : e₀ = grid0.coords t 0 := Fin.ext he₀
      rw [← this]; exact hg
    have hyj : y.val = (grid0.coords t 1).val * 1408 + y.val % 1408 := by omega
    have key := step_hit c (grid0.coords t) (iblk m (ok m) c 0 t) (iblk m (ok m) c 1 t) (iblk m (ok m) c 2 t) (iblk m (ok m) c 3 t) (tbl m) xo r y
      ⟨y.val % 1408, Nat.mod_lt _ (by decide)⟩ hyj e₀ he₀ hg hm
    have hval : stepOut c (grid0.coords t) (iblk m (ok m) c 0 t) (iblk m (ok m) c 1 t) (iblk m (ok m) c 2 t) (iblk m (ok m) c 3 t) (tbl m 0) xo (ix2 r y)
        = product m c e₀ r y := by
      refine key.trans ?_
      unfold product val
      refine congrArg₂ (· * ·) (congrArg₂ (· * ·) (Finset.sum_congr rfl fun k _ => congrArg₂ (· * ·) ?_ ?_) ?_) ?_
      · exact block_x m (ok m) c t r k
      · exact block_w m (ok m) c t hg' k _ e₀ he₀ y hyj
      · exact block_xs m (ok m) c t r 0
      · exact block_ws m (ok m) c t e₀ y
    refine ⟨fun e he _ => ?_, fun hno => ?_⟩
    · rw [mem_unique hs he hm]; exact hval
    · exact absurd (show 2 * (t.val / 2) + y.val / 1408 ≤ t.val by omega) (hno e₀ hm)
  · have key := step_miss c (grid0.coords t) (iblk m (ok m) c 0 t) (iblk m (ok m) c 1 t) (iblk m (ok m) c 2 t) (iblk m (ok m) c 3 t) (tbl m) xo r y e₀ he₀ hit
    have lt_iff : ∀ e : Fin 16, Mem (word (tbl m)) e r.val → (2 * e.val + y.val / 1408 ≤ t.val ↔ 2 * e.val + y.val / 1408 < t.val) := by
      intro e he
      refine ⟨fun h => lt_of_le_of_ne h fun heq => hit ⟨by omega, ?_⟩, le_of_lt⟩
      have : e = e₀ := Fin.ext (show e.val = t.val / 2 by omega)
      exact this ▸ he
    exact ⟨fun e he h => key.trans ((hb r y).1 e he ((lt_iff e he).mp h)),
      fun hno => key.trans ((hb r y).2 fun e he h => hno e he ((lt_iff e he).mpr h))⟩

/-- It holds after every point. -/
theorem passed (hs : Small (word (tbl m))) (c : Dev nD) : ∀ (n : ℕ) (hn : n < (cfgM m (ok m)).N), Passed m c n (outsAt m (ok m) c n hn)
  | 0, hn => by
    refine passed_step m hs c ⟨0, hn⟩ _ fun r y => ⟨fun e _ h => absurd h (Nat.not_lt_zero _), fun _ => ?_⟩
    exact base_first _ ((cond1_iff _).mpr rfl) _ r y
  | n + 1, hn => by
    refine passed_step m hs c ⟨n + 1, hn⟩ _ fun r y => ?_
    rw [base_later _ (fun h => absurd ((cond1_iff _).mp h) (Nat.succ_ne_zero n))]
    have ih := passed hs c n (Nat.lt_of_succ_lt hn) r y
    exact ⟨fun e he h => ih.1 e he (Nat.le_of_lt_succ h), fun hno => ih.2 fun e he h => hno e he (Nat.lt_succ_of_le h)⟩

/-- The output's array when the run ends. -/
def result (c : Dev nD) : Vec Ideal S256x2816 .bf16 := outsAt m (ok m) c 31 (by rw [show (cfgM m (ok m)).N = 32 from N_0]; decide)

/-- It is the grouped product. -/
theorem result_isProduct (hs : Small (word (tbl m))) (c : Dev nD) :
    IsProduct (word (tbl m)) (product m c) fun r y => result m c (ix2 r y) := by
  intro r y
  have h := passed m hs c 31 (by rw [show (cfgM m (ok m)).N = 32 from N_0]; decide) r y
  have hy := y.isLt
  exact ⟨fun e he => h.1 e he (by have := e.isLt; omega), fun hno => h.2 fun e he _ => hno e he⟩

/-- The last point writes the whole output. -/
def tLast (hO : Ok m) : Fin (cfgM m hO).N := ⟨31, by rw [show (cfgM m hO).N = 32 from N_0]; decide⟩

theorem out_array (c : Dev nD) : (dats m (ok m) 0 c).arrAt 4 (cfgM m (ok m)).N = result m c := by
  refine (dats m (ok m) 0 c).arrAt_eq_of_after_last 4 (tLast m (ok m)) ?_ _ fun j => ?_
  · refine ⟨(flush_4 (adm m (ok m)) _).mpr rfl, fun t h => Fin.ext ?_, fun a => ⟨by fin_cases a <;> rfl, by fin_cases a <;> rfl⟩⟩
    have ht : t.val < 32 := Nat.lt_of_lt_of_eq t.isLt N_0
    have := (flush_4 (adm m (ok m)) t).mp h
    show t.val = 31
    omega
  · exact congrFun (after_4 m (ok m) c (tLast m (ok m))) j

/-- The run: the result holds `result`, the arguments as found. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (out_array m c), h.2 c⟩)
    (θ_run_and (run_main m ρ) (frame_of m ρ (ok m) (dats m (ok m)) (A_eq m (ok m)) (run_main m ρ)))

end Cert.KernelIdeal.Grouped

end
-- ==== Proof.RefRun.lean ====
/- The reference's result, read off its run. -/
module

public import proofs.«01_k».proof.Proof.Gen.ReferenceIdeal.Frame
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.ReferenceIdeal.Grouped

open Cert.ReferenceIdeal.Gen
open Idealize.ShloMosaic Idealize.ShloMosaic.TcCoe Idealize.SL.Sem

/-! ## The reference's stages, as functions of vectors -/

/-- Each group's end: the running sum of the sizes. -/
def ends (g : Vec Ideal S16 .i32) : Vec Ideal S16 .i32 :=
  Host.reduceWindow IntOp.addi ![16] ![1] ![15] ![0] g (broadcastInDim S_ ![] bcast_S_S_ (constantI S_ 32 0#32)) reduceWindows_S16_S16_w16s1p15_0 h_S_

/-- Each group's first row. -/
def starts (g : Vec Ideal S16 .i32) : Vec Ideal S16 .i32 := subi (ends g) g

/-- Whether a group starts at or before a row. -/
def begun (g : Vec Ideal S16 .i32) : Vec Ideal S16x256 .i1 :=
  cmpi .sle (broadcastInDim S16x256 ![0, 1] bcast_S16x1_S16x256_0_1 (broadcastInDim S16x1 ![0] bcast_S16_S16x1_0 (starts g)))
    (broadcastInDim S16x256 ![0, 1] bcast_S1x256_S16x256_0_1 (broadcastInDim S1x256 ![1] bcast_S256_S1x256_1 (iotaInDim S256 32 0)))

/-- Whether a row is one of a group's. -/
def member (g : Vec Ideal S16 .i32) : Vec Ideal S16x256 .i1 :=
  andi (begun g) (cmpi .slt (broadcastInDim S16x256 ![0, 1] bcast_S1x256_S16x256_0_1 (broadcastInDim S1x256 ![1] bcast_S256_S1x256_1 (iotaInDim S256 32 0)))
    (broadcastInDim S16x256 ![0, 1] bcast_S16x1_S16x256_0_1 (broadcastInDim S16x1 ![0] bcast_S16_S16x1_0 (ends g))))

/-- The rows of each group, zero elsewhere. -/
def rowsOf (g : Vec Ideal S16 .i32) (x : Vec Ideal S256x2816 .f32) : Vec Ideal S16x256x2816 .f32 :=
  select (broadcastInDim S16x256x2816 ![0, 1, 2] bcast_S16x256x1_S16x256x2816_0_1_2 (broadcastInDim S16x256x1 ![0, 1] bcast_S16x256_S16x256x1_0_1 (member g)))
    (broadcastInDim S16x256x2816 ![0, 1, 2] bcast_S1x256x2816_S16x256x2816_0_1_2 (broadcastInDim S1x256x2816 ![1, 2] bcast_S256x2816_S1x256x2816_1_2 x))
    (broadcastInDim S16x256x2816 ![] bcast_S_S16x256x2816 (constant (F := Ideal) S_ .f32 0x00000000#32))

/-- The products with the experts' matrices, added over the experts. -/
def products (g : Vec Ideal S16 .i32) (x : Vec Ideal S256x2816 .f32) (w : Vec Ideal S16x2816x2816 .f32) : Vec Ideal S256x2816 .f32 :=
  Host.dotGeneral (F := Ideal) (φ₁ := .f32) (φ₂ := .f32) dot_S16x256x2816_S16x2816x2816_S256x2816_02_01_1_2_n_n none (rowsOf g x) w

/-! The group of each row, as `jnp.repeat` finds it: a mark is added at each group's first row, and a row's group is one less than
    the number of marks up to it. -/

/-- One entry, then fifteen. -/
def joined (a : Vec Ideal S1 .i32) (b : Vec Ideal S15 .i32) : Vec Ideal S16 .i32 :=
  concatenate S16 0 [⟨S1, a⟩, ⟨S15, b⟩] concatenates_S1_S15_S16_d0

/-- The sizes moved one place up, zero in the first place. -/
def shifted (g : Vec Ideal S16 .i32) : Vec Ideal S16 .i32 :=
  Host.scatter scatter_S16_S1_S__n_0_0_0 (fun _ b => b)
    (joined (extractStridedSlice S1 ![15] g slices_S16_S1_15) (extractStridedSlice S15 ![0] g slices_S16_S15_0))
    (broadcastInDim S1 ![] bcast_S_S1 (constantI S_ 32 0#32)) (constantI S_ 32 0#32)

/-- Each group's first row: the running sum of those. -/
def firsts (g : Vec Ideal S16 .i32) : Vec Ideal S16 .i32 :=
  Host.reduceWindow IntOp.addi ![16] ![1] ![15] ![0] (shifted g) (broadcastInDim S_ ![] bcast_S_S_ (constantI S_ 32 0#32)) reduceWindows_S16_S16_w16s1p15_0 h_S_

/-- Where the marks go: the first rows, a negative one counted from the end. -/
def places (g : Vec Ideal S16 .i32) : Vec Ideal S16 .i32 :=
  select (cmpi .slt (firsts g) (broadcastInDim S16 ![] bcast_S_S16 (constantI S_ 32 0#32)))
    (addi (firsts g) (broadcastInDim S16 ![] bcast_S_S16 (constantI S_ 32 256#32))) (firsts g)

/-- How many groups start at each row. -/
def marks (g : Vec Ideal S16 .i32) : Vec Ideal S256 .i32 :=
  Host.scatter scatter_S256_S16x1_S16_n_0_0_1 IntOp.addi (broadcastInDim S256 ![] bcast_S_S256 (constantI S_ 32 0#32))
    (broadcastInDim S16x1 ![0] bcast_S16_S16x1_0 (places g)) (broadcastInDim S16 ![] bcast_S_S16 (constantI S_ 32 1#32))

/-- One less than how many start at or before each row. -/
def last (g : Vec Ideal S16 .i32) : Vec Ideal S256 .i32 :=
  subi (Host.reduceWindow IntOp.addi ![256] ![1] ![255] ![0] (marks g) (broadcastInDim S_ ![] bcast_S_S_ (constantI S_ 32 0#32)) reduceWindows_S256_S256_w256s1p255_0 h_S_)
    (broadcastInDim S256 ![] bcast_S_S256 (constantI S_ 32 1#32))

/-- Indices into sixteen entries as a column, a negative one counted from the end. -/
def column (v : Vec Ideal S256 .i32) : Vec Ideal S256x1 .i32 :=
  broadcastInDim S256x1 ![0] bcast_S256_S256x1_0
    (select (cmpi .slt v (broadcastInDim S256 ![] bcast_S_S256 (constantI S_ 32 0#32)))
      (addi v (broadcastInDim S256 ![] bcast_S_S256 (constantI S_ 32 16#32))) v)

/-- Whether each index is one of sixteen entries'. -/
def inRange (v : Vec Ideal S256 .i32) : Vec Ideal S256 .i1 :=
  Host.reduce IntOp.andi
    (andi (cmpi .sge (column v) (broadcastInDim S256x1 ![] bcast_S_S256x1 (constantI S_ 32 0#32)))
      (cmpi .sle (column v) (broadcastInDim S256x1 ![0, 1] bcast_S1x1_S256x1_0_1 (broadcastInDim S1x1 ![1] bcast_S1_S1x1_1 (constantI S1 32 15#32)))))
    (constantI S_ 1 1#1) reducesTo_S256x1_S256_d1 h_S_

/-- Each row's group: the entry of 0, 1, …, 15 there. -/
def ids (g : Vec Ideal S16 .i32) : Vec Ideal S256 .i32 :=
  select (inRange (last g)) (Host.gather gather_S16_S256x1_S256_n_0_n_n_0_1_1 (iotaInDim S16 32 0) (column (last g)))
    (broadcastInDim S256 ![] bcast_S_S256 (constantI S_ 32 2147483648#32))

/-- The column scales of each row's expert. -/
def scalesOf (g : Vec Ideal S16 .i32) (ws : Vec Ideal S16x2816 .f32) : Vec Ideal S256x2816 .f32 :=
  Host.gather gather_S16x2816_S256x1_S256x2816_1_0_n_n_0_1_12816 ws (column (ids g))

/-- The scaled result. -/
def out (x : Vec Ideal S256x2816 .f32) (xs : Vec Ideal S256x1 .f32) (g : Vec Ideal S16 .i32) (w : Vec Ideal S16x2816x2816 .f32) (ws : Vec Ideal S16x2816 .f32) :
    Vec Ideal S256x2816 .bf16 :=
  truncf (F := Ideal) .bf16 (mulf (F := Ideal) (mulf (F := Ideal) (products g x w) (broadcastInDim S256x2816 ![0, 1] bcast_S256x1_S256x2816_0_1 xs)) (scalesOf g ws)) bitsLt_bf16_f32

/-! ## The host operations after the region -/

/-- The stretch that moves the sizes, its last operation named. -/
theorem hostOps1_4_eq : (hostOps1_4 : List (HloOp τ sig (Elt Ideal))) =
    [ StableHlo.TRef.unary (.of main_arg2 : StableHlo.TRef sig ⟨S16, .i32⟩) (.of main_call2_v0 : StableHlo.TRef sig ⟨S1, .i32⟩) (extractStridedSlice S1 ![15] · slices_S16_S1_15),
      StableHlo.TRef.unary (.of main_arg2 : StableHlo.TRef sig ⟨S16, .i32⟩) (.of main_call2_v1 : StableHlo.TRef sig ⟨S15, .i32⟩) (extractStridedSlice S15 ![0] · slices_S16_S15_0),
      StableHlo.TRef.binary (.of main_call2_v0 : StableHlo.TRef sig ⟨S1, .i32⟩) (.of main_call2_v1 : StableHlo.TRef sig ⟨S15, .i32⟩) (.of main_v20 : StableHlo.TRef sig ⟨S16, .i32⟩) joined ] := rfl

set_option maxHeartbeats 4000000 in
theorem after_v47 (V : Valuation τ sig (Elt Ideal)) : StableHlo.after (([hostOps1, hostOps1_1, hostOps1_2, hostOps1_3, hostOps1_4, hostOps1_5, hostOps1_6, hostOps1_7, hostOps1_8, hostOps1_9, hostOps1_10, hostOps1_11] : List (List (HloOp τ sig (Elt Ideal)))).flatten) V (Proc.devRef .tc main_v47)
    = out (V (Proc.devRef .tc main_v0_0)) (V (Proc.devRef .tc main_arg1)) (V (Proc.devRef .tc main_arg2)) (V (Proc.devRef .tc main_v0_1)) (V (Proc.devRef .tc main_arg4)) := by
  rw [hostOps1_4_eq]
  simp only [hostOps1, hostOps1_1, hostOps1_2, hostOps1_3, hostOps1_5, hostOps1_6, hostOps1_7, hostOps1_8, hostOps1_9, hostOps1_10, hostOps1_11, List.flatten_cons, List.flatten_nil, List.append_nil, List.cons_append,
        List.nil_append]
  after_reads_simp
  simp -implicitDefEqProofs only [StableHlo.TRef.toBuf, StableHlo.TRef.ofBuf, cast_cast, cast_eq, id]
  unfold out scalesOf ids inRange column last marks places firsts shifted products rowsOf member begun starts ends
  with_reducible rfl

/-! ## The region's two results -/

variable (m : (ℓ : Loc nD τ sig) → Buf (Elt Ideal) ℓ) (ρ : Dev nD → PrngReg)

theorem array_x (c : Dev nD) : (dats m 0 c).arrAt 2 cfg0.N = (V m c main_arg0 : Vec Ideal S256x2816 .fp8e4m3) := by
  refine (dats m 0 c).arrAt_eq_of_after_last 2 t0_0 (by decide +kernel) _ fun j => ?_
  blk_simp
  rw [after0_2]
  frame_out
  refine congrArg (V m c main_arg0) (funext fun a => Fin.ext ?_)
  refine (Pipeline.Window.rect_emb_val_of_index_zero (cfg0.win 0) t0_0 a ?_ _).trans rfl
  fin_cases a <;> rfl

theorem array_w (c : Dev nD) : (dats m 0 c).arrAt 3 cfg0.N = (V m c main_arg3 : Vec Ideal S16x2816x2816 .fp8e4m3) := by
  refine (dats m 0 c).arrAt_eq_of_after_last 3 t0_0 (by decide +kernel) _ fun j => ?_
  blk_simp
  rw [after0_3]
  frame_out
  refine congrArg (V m c main_arg3) (funext fun a => Fin.ext ?_)
  refine (Pipeline.Window.rect_emb_val_of_index_zero (cfg0.win 1) t0_0 a ?_ _).trans rfl
  fin_cases a <;> rfl

/-- The result on core `c`. -/
def result (c : Dev nD) : Vec Ideal S256x2816 .bf16 :=
  out (V m c main_arg0 : Vec Ideal S256x2816 .fp8e4m3) (V m c main_arg1) (V m c main_arg2) (V m c main_arg3 : Vec Ideal S16x2816x2816 .fp8e4m3) (V m c main_arg4)

theorem tail_v47 (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11] c main_v47 = result m c := by
  unfold Pipeline.afterTail₀
  rw [after_v47]
  have hx := (Pipeline.withArrays_arr (cfgs 0).spec launch0.win.arr_inj c (V0 m c) (fun w => (dats m 0 c).arrAt w (cfgs 0).N) 2).trans (array_x m c)
  have hw := (Pipeline.withArrays_arr (cfgs 0).spec launch0.win.arr_inj c (V0 m c) (fun w => (dats m 0 c).arrAt w (cfgs 0).N) 3).trans (array_w m c)
  have h1 := Pipeline.withArrays_of_ne (cfgs 0).spec c (V0 m c) (fun w => (dats m 0 c).arrAt w (cfgs 0).N) main_arg1 (by exact (by decide : ∀ w, Pipeline.arrRef spec0 w ≠ main_arg1))
  have h2 := Pipeline.withArrays_of_ne (cfgs 0).spec c (V0 m c) (fun w => (dats m 0 c).arrAt w (cfgs 0).N) main_arg2 (by exact (by decide : ∀ w, Pipeline.arrRef spec0 w ≠ main_arg2))
  have h4 := Pipeline.withArrays_of_ne (cfgs 0).spec c (V0 m c) (fun w => (dats m 0 c).arrAt w (cfgs 0).N) main_arg4 (by exact (by decide : ∀ w, Pipeline.arrRef spec0 w ≠ main_arg4))
  exact congr (congr (congr (congr (congrArg out hx) h1) h2) hw) h4

/-- The run: the result holds `result`, the arguments as found. -/
theorem run_value : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v47 (Pipeline.mem_restRefs_of main_v47 (by decide) (by decide))).trans (tail_v47 m c), h.2 c⟩)
    (θ_run_and (run_main m ρ) (frame_of m ρ (dats m) (A_eq m) (run_main m ρ)))

end Cert.ReferenceIdeal.Grouped

end
-- ==== Proof.Repeat.lean ====
/- The group of each row as the reference finds it: a mark at each group's first row, the marks added up to the row, less one.
   It is the last group that starts at or before the row, whatever the row. -/
module

public import proofs.«01_k».proof.Proof.RefRun
public import Idealize.ShloMosaic.Lib.Routing.Ops
public import Idealize.ShloMosaic.Lib.Routing.OpsOne
public import Idealize.ShloMosaic.Lib.Routing.OpsPair
public import Idealize.ShloMosaic.Lib.Routing.OpsSet
public import Idealize.ShloMosaic.Lib.ReduceAll
public import Idealize.ShloMosaic.Lib.StableHlo.Predicate

@[expose] public section

set_option maxRecDepth 16384

noncomputable section

namespace Cert.ReferenceIdeal.Grouped

open Cert.ReferenceIdeal.Gen Cert.Groups
open Idealize.ShloMosaic

/-- The sizes as a function of the group. -/
def sizesOf (g : Vec Ideal S16 .i32) (e : Fin 16) : BitVec 32 := g (ix1 e)

/-! ## The first rows -/

theorem shifted_zero (g : Vec Ideal S16 .i32) : shifted g (ix1 (0 : Fin 16)) = 0#32 := by
  refine (Routing.scatter_one (N := 16) scatter_S16_S1_S__n_0_0_0 rfl rfl _ _ _ 0 (by decide) ?_ 0).trans ?_
  · pointwise
  · rfl

theorem shifted_succ (g : Vec Ideal S16 .i32) (i : Fin 15) : shifted g (ix1 (i.succ : Fin 16)) = sizesOf g i.castSucc := by
  refine (Routing.scatter_one (N := 16) scatter_S16_S1_S__n_0_0_0 rfl rfl _ _ _ 0 (by decide) ?_ i.succ).trans ?_
  · pointwise
  · rw [if_neg (Fin.succ_ne_zero i)]
    unfold joined sizesOf
    pointwise
    rw [dif_neg (by show ¬ i.val + 1 < 1; omega)]
    rfl

theorem firsts_apply (g : Vec Ideal S16 .i32) (e : Fin 16) : firsts g (ix1 e) = start (sizesOf g) e := by
  refine (Routing.cumsum_vec (N := 16) (Nm1 := 15) rfl (shifted g) _ rfl _ _ e).trans ?_
  show (∑ i : Fin 16, if i ≤ e then shifted g (ix1 i) else 0) = _
  unfold start
  rw [Fin.sum_univ_succ, Fin.sum_univ_castSucc (n := 15)]
  have h0 : (if (0 : Fin 16) ≤ e then shifted g (ix1 (0 : Fin 16)) else 0) = 0 := by rw [shifted_zero]; split <;> rfl
  have h1 : (if Fin.last 15 < e then sizesOf g (Fin.last 15) else 0) = 0 := if_neg (not_lt.mpr (Fin.le_last e))
  rw [h0, h1, zero_add, add_zero]
  refine Finset.sum_congr rfl fun i _ => ?_
  rw [shifted_succ]
  exact if_congr Fin.castSucc_lt_iff_succ_le.symm rfl rfl

/-- A first row is not negative, so its mark goes where it says. -/
theorem places_apply (g : Vec Ideal S16 .i32) (hs : Small (sizesOf g)) (e : Fin 16) : places g (ix1 e) = start (sizesOf g) e := by
  have h : places g (ix1 e) = Scalar.select (IntOp.cmpi .slt (firsts g (ix1 e)) 0#32) (firsts g (ix1 e) + 256#32) (firsts g (ix1 e)) := by
    unfold places
    generalize firsts g = v
    pointwise
    rfl
  rw [h, firsts_apply]
  refine Routing.wrap_of_lt _ _ ?_
  have := toNat_start hs e
  have := hs e
  omega

/-! ## The marks -/

/-- Mark `i` lands at row `x` when its index word, read signed, is `x`. -/
theorem lands (idx : IVec S16x1 32) (i : Fin 16) (x : Fin 256) :
    scatter_S256_S16x1_S16_n_0_0_1.resultIdx? (ix1 i) idx = some (ix1 x) ↔ (idx (ix2 i (0 : Fin 1))).toInt = (x.val : Int) := by
  have hwin : scatter_S256_S16x1_S16_n_0_0_1.window (ix1 i) 0 = 0 := rfl
  have hstart : scatter_S256_S16x1_S16_n_0_0_1.start (ix1 i) idx 0 = (idx (ix2 i (0 : Fin 1))).toInt := by
    refine congrArg (fun j => (idx j).toInt) (funext fun b => Fin.ext ?_)
    fin_cases b <;> rfl
  refine (Routing.resultIdx?_ix1 (N := 256) scatter_S256_S16x1_S16_n_0_0_1 (ix1 i) idx x).trans ?_
  rw [hstart, hwin]
  omega

/-- A fold that adds a word at some steps adds the sum of those. -/
theorem foldl_add {ι : Type} (p : ι → Prop) [DecidablePred p] (v : ι → BitVec 32) (l : List ι) (a : BitVec 32) :
    l.foldl (fun a n => if p n then IntOp.addi a (v n) else a) a = a + (l.map fun n => if p n then v n else 0).sum := by
  induction l generalizing a with
  | nil => simp
  | cons n l ih =>
    rw [List.foldl_cons, ih, List.map_cons, List.sum_cons, ← add_assoc]
    congr 1
    split
    · rfl
    · rw [add_zero]

theorem marks_apply (g : Vec Ideal S16 .i32) (hs : Small (sizesOf g)) (x : Fin 256) :
    marks g (ix1 x) = ∑ e : Fin 16, if (start (sizesOf g) e).toInt = (x.val : Int) then 1#32 else 0 := by
  have hidx : ∀ e : Fin 16, broadcastInDim S16x1 ![0] bcast_S16_S16x1_0 (places g) (ix2 e (0 : Fin 1)) = start (sizesOf g) e := fun e => by
    rw [← places_apply g hs e]
    generalize places g = v
    pointwise
  unfold marks
  generalize broadcastInDim S16x1 ![0] bcast_S16_S16x1_0 (places g) = idx at hidx ⊢
  rw [Routing.scatter_at, foldl_add, ← Fin.sum_univ_def]
  have h0 : broadcastInDim S256 ![] bcast_S_S256 (constantI S_ 32 0#32) (ix1 x) = (0 : BitVec 32) := rfl
  rw [h0, zero_add]
  refine Fintype.sum_equiv (finCongr (Routing.numel1 16)) _ _ fun n => ?_
  have hn : S16.rowMajor.symm n = ix1 (finCongr (Routing.numel1 16) n) := Routing.symm1 (N := 16) n
  rw [hn]
  refine if_congr ((lands idx _ x).trans ?_) rfl rfl
  rw [hidx]

/-! ## The row's group -/

/-- The groups that start at or before a row are those up to some group: the first starts at row 0, and they start in order. -/
theorem exists_last {g : Fin 16 → BitVec 32} (hs : Small g) (r : ℕ) : ∃ e : Fin 16, ∀ e' : Fin 16, (start g e').toInt ≤ (r : ℤ) ↔ e' ≤ e := by
  have h0 : (start g 0).toInt ≤ (r : ℤ) := by
    rw [toInt_start hs, first_zero]; omega
  obtain ⟨e, he, hmax⟩ := Finset.exists_max_image (Finset.univ.filter fun e : Fin 16 => (start g e).toInt ≤ (r : ℤ)) id
    ⟨0, Finset.mem_filter.mpr ⟨Finset.mem_univ _, h0⟩⟩
  refine ⟨e, fun e' => ⟨fun h => hmax e' (Finset.mem_filter.mpr ⟨Finset.mem_univ _, h⟩), fun h => ?_⟩⟩
  have hr := (Finset.mem_filter.mp he).2
  rcases lt_or_eq_of_le h with hl | rfl
  · have := first_step (g := g) hl
    rw [toInt_start hs] at hr ⊢
    omega
  · exact hr

/-- The marks up to a row are the groups that start at or before it. -/
theorem sum_marks {s : Fin 16 → ℤ} (h0 : ∀ e, 0 ≤ s e) (r : Fin 256) :
    (∑ x : Fin 256, if x ≤ r then ∑ e : Fin 16, (if s e = (x.val : ℤ) then 1#32 else 0) else 0) = ∑ e : Fin 16, if s e ≤ (r.val : ℤ) then 1#32 else 0 := by
  have push : ∀ x : Fin 256, (if x ≤ r then ∑ e : Fin 16, (if s e = (x.val : ℤ) then 1#32 else 0) else 0)
      = ∑ e : Fin 16, if x ≤ r ∧ s e = (x.val : ℤ) then 1#32 else 0 := fun x => by
    by_cases hx : x ≤ r
    · rw [if_pos hx]; exact Finset.sum_congr rfl fun e _ => if_congr ⟨fun h => ⟨hx, h⟩, fun h => h.2⟩ rfl rfl
    · rw [if_neg hx]; exact (Finset.sum_eq_zero fun e _ => if_neg fun h => hx h.1).symm
  rw [Finset.sum_congr rfl fun x _ => push x, Finset.sum_comm]
  refine Finset.sum_congr rfl fun e _ => ?_
  have hr := r.isLt
  have he := h0 e
  by_cases hle : s e ≤ (r.val : ℤ)
  · have hx : (s e).toNat < 256 := by omega
    rw [if_pos hle, Finset.sum_eq_single (⟨(s e).toNat, hx⟩ : Fin 256)]
    · refine if_pos ⟨?_, ?_⟩
      · show (s e).toNat ≤ r.val
        omega
      · show s e = ((s e).toNat : ℤ)
        omega
    · intro x _ hne
      refine if_neg fun h => hne (Fin.ext ?_)
      show x.val = (s e).toNat
      omega
    · exact fun h => absurd (Finset.mem_univ _) h
  · rw [if_neg hle]
    refine Finset.sum_eq_zero fun x _ => if_neg fun h => hle ?_
    have : x.val ≤ r.val := h.1
    omega

theorem last_apply (g : Vec Ideal S16 .i32) (hs : Small (sizesOf g)) (r : Fin 256) (e : Fin 16)
    (he : ∀ e' : Fin 16, (start (sizesOf g) e').toInt ≤ (r.val : ℤ) ↔ e' ≤ e) : last g (ix1 r) = BitVec.ofNat 32 e.val := by
  have hsum : Host.reduceWindow IntOp.addi ![256] ![1] ![255] ![0] (marks g) (broadcastInDim S_ ![] bcast_S_S_ (constantI S_ 32 0#32)) reduceWindows_S256_S256_w256s1p255_0 h_S_ (ix1 r)
      = ∑ e' : Fin 16, if e' ≤ e then 1#32 else 0 := by
    refine (Routing.cumsum_vec (N := 256) (Nm1 := 255) rfl (marks g) _ rfl _ _ r).trans ?_
    show (∑ x : Fin 256, if x ≤ r then marks g (ix1 x) else 0) = _
    simp only [marks_apply g hs]
    rw [sum_marks (s := fun e => (start (sizesOf g) e).toInt) fun e => by rw [toInt_start hs]; omega]
    exact Finset.sum_congr rfl fun e' _ => if_congr (he e') rfl rfl
  have count : ∀ e : Fin 16, (∑ e' : Fin 16, if e' ≤ e then 1#32 else 0) - 1#32 = BitVec.ofNat 32 e.val := by decide +kernel
  refine Eq.trans ?_ (count e)
  rw [← hsum]
  rfl

/-- An index of one of the sixteen is taken as it is. -/
theorem column_apply (v : Vec Ideal S256 .i32) (r : Fin 256) (e : Fin 16) (h : v (ix1 r) = BitVec.ofNat 32 e.val) :
    column v (ix2 r (0 : Fin 1)) = BitVec.ofNat 32 e.val := by
  have hc : column v (ix2 r (0 : Fin 1)) = Scalar.select (IntOp.cmpi .slt (v (ix1 r)) 0#32) (v (ix1 r) + 16#32) (v (ix1 r)) := by
    unfold column
    pointwise
    rfl
  have small : ∀ e : Fin 16, Scalar.select (IntOp.cmpi .slt (BitVec.ofNat 32 e.val) 0#32) (BitVec.ofNat 32 e.val + 16#32) (BitVec.ofNat 32 e.val) = BitVec.ofNat 32 e.val := by
    decide
  rw [hc, h]
  exact small e

/-- Every row's index is in range. -/
theorem inRange_apply (g : Vec Ideal S16 .i32) (hs : Small (sizesOf g)) (j : S256.Idx) : inRange (last g) j = 1#1 := by
  refine Host.reduce_andi_one _ _ _ _ _ rfl fun i => ?_
  have hi : i = ix2 (i 0) (0 : Fin 1) := funext fun a => by
    fin_cases a
    · rfl
    · exact Subsingleton.elim (α := Fin 1) _ _
  obtain ⟨e, he⟩ := exists_last hs (i 0).val
  have hc := column_apply (last g) (i 0) e (last_apply g hs (i 0) e he)
  rw [hi]
  generalize column (last g) = c at hc ⊢
  have hv : andi (cmpi .sge c (broadcastInDim S256x1 ![] bcast_S_S256x1 (constantI S_ 32 0#32)))
      (cmpi .sle c (broadcastInDim S256x1 ![0, 1] bcast_S1x1_S256x1_0_1 (broadcastInDim S1x1 ![1] bcast_S1_S1x1_1 (constantI S1 32 15#32)))) (ix2 (i 0) (0 : Fin 1))
      = IntOp.andi (IntOp.cmpi .sge (c (ix2 (i 0) (0 : Fin 1))) 0#32) (IntOp.cmpi .sle (c (ix2 (i 0) (0 : Fin 1))) 15#32) := rfl
  have small : ∀ e : Fin 16, IntOp.andi (IntOp.cmpi .sge (BitVec.ofNat 32 e.val) 0#32) (IntOp.cmpi .sle (BitVec.ofNat 32 e.val) 15#32) = 1#1 := by decide
  refine hv.trans ?_
  rw [hc]
  exact small e

/-- A row's group is the last that starts at or before it. -/
theorem ids_last (g : Vec Ideal S16 .i32) (hs : Small (sizesOf g)) (r : Fin 256) (e : Fin 16)
    (he : ∀ e' : Fin 16, (start (sizesOf g) e').toInt ≤ (r.val : ℤ) ↔ e' ≤ e) : ids g (ix1 r) = BitVec.ofNat 32 e.val := by
  have hc := column_apply (last g) r e (last_apply g hs r e he)
  show Scalar.select (inRange (last g) (ix1 r)) (Host.gather gather_S16_S256x1_S256_n_0_n_n_0_1_1 (iotaInDim S16 32 0) (column (last g)) (ix1 r)) _ = _
  rw [inRange_apply g hs]
  show Host.gather gather_S16_S256x1_S256_n_0_n_n_0_1_1 (iotaInDim S16 32 0) (column (last g)) (ix1 r) = _
  refine (Routing.gather_take1 (N := 16) (n := 256) gather_S16_S256x1_S256_n_0_n_n_0_1_1 rfl rfl rfl rfl _ _ r e hc (by decide)).trans ?_
  rfl

end Cert.ReferenceIdeal.Grouped

end
-- ==== Proof.RefValue.lean ====
/- The reference's result read at an index, over the extended reals: it is the grouped product. -/
module

public import proofs.«01_k».proof.Proof.Repeat

@[expose] public section

set_option maxRecDepth 16384

noncomputable section

namespace Cert.ReferenceIdeal.Grouped

open Cert.ReferenceIdeal.Gen Cert.Groups
open Idealize.ShloMosaic

/-- A signed comparison's bit, on the numbers the words hold. -/
theorem ofBool_iff (p : Prop) [Decidable p] : BitVec.ofBool (decide p) = 1#1 ↔ p := by
  by_cases h : p <;> simp [h]

theorem ends_apply (g : Vec Ideal S16 .i32) (e : Fin 16) : ends g (ix1 e) = ∑ i : Fin 16, if i ≤ e then sizesOf g i else 0 :=
  Routing.cumsum_vec (N := 16) (Nm1 := 15) rfl g _ rfl _ _ e

theorem starts_apply (g : Vec Ideal S16 .i32) (e : Fin 16) : starts g (ix1 e) = start (sizesOf g) e := by
  show ends g (ix1 e) - g (ix1 e) = _
  rw [ends_apply]
  exact Routing.prefix_sub_last (sizesOf g) e

theorem ends_eq (g : Vec Ideal S16 .i32) (e : Fin 16) : ends g (ix1 e) = start (sizesOf g) e + sizesOf g e := by
  rw [← starts_apply]
  show _ = ends g (ix1 e) - g (ix1 e) + g (ix1 e)
  rw [BitVec.sub_add_cancel]

theorem toInt_row (r : Fin 256) : (BitVec.ofNat 32 r.val).toInt = r.val := by
  have := r.isLt
  rw [BitVec.toInt_eq_toNat_of_lt] <;> simp only [BitVec.toNat_ofNat] <;> omega

theorem begun_iff (g : Vec Ideal S16 .i32) (e : Fin 16) (r : Fin 256) : begun g (ix2 e r) = 1#1 ↔ (start (sizesOf g) e).toInt ≤ r.val := by
  have h : begun g (ix2 e r) = IntOp.cmpi .sle (starts g (ix1 e)) (BitVec.ofNat 32 r.val) := by
    unfold begun
    generalize starts g = s
    pointwise
  rw [h, starts_apply, WordCmp.cmpi_sle_eq, toInt_row, ofBool_iff]

theorem member_iff (g : Vec Ideal S16 .i32) (e : Fin 16) (r : Fin 256) : member g (ix2 e r) = 1#1 ↔ Mem (sizesOf g) e r.val := by
  have h : member g (ix2 e r) = IntOp.andi (begun g (ix2 e r)) (IntOp.cmpi .slt (BitVec.ofNat 32 r.val) (ends g (ix1 e))) := by
    unfold member
    generalize ends g = s
    generalize begun g = b
    pointwise
  have ha : ∀ a b : BitVec 1, IntOp.andi a b = 1#1 ↔ a = 1#1 ∧ b = 1#1 := by decide
  rw [h, ha, begun_iff, ends_eq, WordCmp.cmpi_slt_eq, toInt_row, ofBool_iff]
  exact Iff.rfl

theorem rowsOf_apply (g : Vec Ideal S16 .i32) (x : Vec Ideal S256x2816 .f32) (e : Fin 16) (r : Fin 256) (k : Fin 2816) :
    rowsOf g x (ix3 e r k) = Scalar.select (member g (ix2 e r)) (x (ix2 r k)) (0 : EReal) := by
  unfold rowsOf
  generalize member g = b
  pointwise

theorem products_apply (g : Vec Ideal S16 .i32) (x : Vec Ideal S256x2816 .f32) (w : Vec Ideal S16x2816x2816 .f32) (r : Fin 256) (y : Fin 2816) :
    products g x w (ix2 r y) = ∑ e : Fin 16, ∑ k : Fin 2816, rowsOf g x (ix3 e r k) * w (ix3 e k y) := by
  unfold products
  generalize rowsOf g x = a
  pointwise

/-- A row of group `e`'s has the index `e`, for the last group that starts at or before it is its own. -/
theorem ids_apply (g : Vec Ideal S16 .i32) (hs : Small (sizesOf g)) (r : Fin 256) (e : Fin 16) (he : Mem (sizesOf g) e r.val) : ids g (ix1 r) = BitVec.ofNat 32 e.val :=
  ids_last g hs r e fun e' => start_le_iff hs he e'

theorem scalesOf_apply (g : Vec Ideal S16 .i32) (ws : Vec Ideal S16x2816 .f32) (hs : Small (sizesOf g)) (r : Fin 256) (y : Fin 2816) (e : Fin 16) (he : Mem (sizesOf g) e r.val) :
    scalesOf g ws (ix2 r y) = ws (ix2 e y) :=
  Routing.gather_row (nb := 16) (B := 2816) (n := 256) _ rfl rfl rfl rfl rfl ws _ r y e (column_apply (ids g) r e (ids_apply g hs r e he)) (by decide)

theorem out_apply (x : Vec Ideal S256x2816 .f32) (xs : Vec Ideal S256x1 .f32) (g : Vec Ideal S16 .i32) (w : Vec Ideal S16x2816x2816 .f32) (ws : Vec Ideal S16x2816 .f32)
    (r : Fin 256) (y : Fin 2816) : out x xs g w ws (ix2 r y) = (products g x w (ix2 r y) : EReal) * xs (ix2 r 0) * scalesOf g ws (ix2 r y) := by
  unfold out
  generalize products g x w = a
  generalize scalesOf g ws = b
  pointwise

/-- The result is the grouped product. -/
theorem out_isProduct (x : Vec Ideal S256x2816 .f32) (xs : Vec Ideal S256x1 .f32) (g : Vec Ideal S16 .i32) (w : Vec Ideal S16x2816x2816 .f32) (ws : Vec Ideal S16x2816 .f32)
    (hs : Small (sizesOf g)) :
    IsProduct (sizesOf g) (val (fun r k => x (ix2 r k)) (fun r => xs (ix2 r 0)) (fun e k y => w (ix3 e k y)) (fun e y => ws (ix2 e y))) fun r y => out x xs g w ws (ix2 r y) := by
  have hit : ∀ (e : Fin 16) (r : Fin 256) (k : Fin 2816), Mem (sizesOf g) e r.val → rowsOf g x (ix3 e r k) = x (ix2 r k) := fun e r k h => by
    rw [rowsOf_apply, (member_iff g e r).mpr h]; rfl
  have miss : ∀ (e : Fin 16) (r : Fin 256) (k : Fin 2816), ¬ Mem (sizesOf g) e r.val → rowsOf g x (ix3 e r k) = (0 : EReal) := fun e r k h => by
    rw [rowsOf_apply]; exact if_neg fun q => h ((member_iff g e r).mp q)
  have zero : ∀ (e : Fin 16) (r : Fin 256) (y : Fin 2816), ¬ Mem (sizesOf g) e r.val → ∑ k : Fin 2816, (rowsOf g x (ix3 e r k) * w (ix3 e k y) : EReal) = 0 := fun e r y h =>
    Finset.sum_eq_zero fun k _ => by rw [miss e r k h, zero_mul]
  intro r y
  refine ⟨fun e he => ?_, fun hno => ?_⟩
  · have hsum : products g x w (ix2 r y) = ∑ k : Fin 2816, (x (ix2 r k) * w (ix3 e k y) : EReal) := by
      rw [products_apply, Finset.sum_eq_single e (fun e' _ hne => zero e' r y fun q => hne (mem_unique hs q he)) fun h => absurd (Finset.mem_univ _) h]
      exact Finset.sum_congr rfl fun k _ => by rw [hit e r k he]
    refine (out_apply x xs g w ws r y).trans ?_
    rw [hsum, scalesOf_apply g ws hs r y e he]
    rfl
  · have hsum : products g x w (ix2 r y) = (0 : EReal) := by
      rw [products_apply]
      exact Finset.sum_eq_zero fun e _ => zero e r y (hno e)
    refine (out_apply x xs g w ws r y).trans ?_
    rw [hsum, zero_mul, zero_mul]

end Cert.ReferenceIdeal.Grouped

end
-- ==== Proof.Equation.lean ====
/- Kernel and reference compute the same array over the extended reals, where no size is negative and the sizes do not
   overflow: both results are the grouped product of the same arguments. -/
module

public import proofs.«01_k».proof.Defs
public import proofs.«01_k».proof.Proof.Gen.Pre_sizes
public import proofs.«01_k».proof.Proof.KernelValue
public import proofs.«01_k».proof.Proof.RefValue

@[expose] public section

set_option maxRecDepth 16384

noncomputable section

namespace Cert.Equation

open Cert.Groups
open Idealize.ShloMosaic Idealize.ShloMosaic.TcCoe Idealize.SL.Sem

/-- The precondition's bits: no size is negative, and no running sum is. -/
theorem small_of_bits (g : Vec Ideal Cert.ReferenceIdeal.S16 .i32)
    (h : ∀ e : Fin 16, IntOp.andi (IntOp.cmpi .sge (g (ix1 e)) 0#32) (IntOp.cmpi .sge (Cert.ReferenceIdeal.Grouped.ends g (ix1 e)) 0#32) = 1#1) :
    Small (Cert.ReferenceIdeal.Grouped.sizesOf g) := by
  have and_one : ∀ p q : BitVec 1, IntOp.andi p q = 1#1 → p = 1#1 ∧ q = 1#1 := by decide
  have e0 : (0#32 : BitVec 32).toInt = 0 := by decide
  refine small_of_nonneg fun e => ?_
  have he := h e
  rw [WordCmp.cmpi_sge_eq, WordCmp.cmpi_sge_eq, Cert.ReferenceIdeal.Grouped.ends_eq, e0] at he
  obtain ⟨h1, h2⟩ := and_one _ _ he
  exact ⟨(Cert.ReferenceIdeal.Grouped.ofBool_iff _).mp h1, (Cert.ReferenceIdeal.Grouped.ofBool_iff _).mp h2⟩

variable (m : (ℓ : Loc Cert.KernelIdeal.nD Cert.KernelIdeal.τ Cert.KernelIdeal.sig) → Buf (Elt Ideal) ℓ)

/-- The sizes the kernel's table holds are the third argument's entries. -/
theorem word_eq (c : Dev Cert.KernelIdeal.nD) :
    Cert.KernelIdeal.Grouped.word (Cert.KernelIdeal.Grouped.tbl m)
      = Cert.ReferenceIdeal.Grouped.sizesOf (Cert.KernelIdeal.Grouped.V m c Cert.KernelIdeal.main_arg2 : Vec Ideal Cert.KernelIdeal.S16 .i32) := by
  obtain rfl : c = 0 := Subsingleton.elim _ _
  funext e
  refine congrArg (Cert.KernelIdeal.Grouped.V m 0 Cert.KernelIdeal.main_arg2 : Vec Ideal Cert.KernelIdeal.S16 .i32) (funext fun a => Fin.ext ?_)
  fin_cases a
  rfl

/-- The precondition makes the sizes small. -/
theorem small (h : Cert.Pre_KernelIdeal_sizes (hPre_sizes := Cert.Pre_sizes.Gen.facts) m) :
    Small (Cert.KernelIdeal.Grouped.word (Cert.KernelIdeal.Grouped.tbl m)) := by
  rw [word_eq m 0]
  exact small_of_bits _ fun e => congrFun (h 0) (ix1 e)

variable (m' : (ℓ : Loc Cert.ReferenceIdeal.nD Cert.ReferenceIdeal.τ Cert.ReferenceIdeal.sig) → Buf (Elt Ideal) ℓ)

/-- From the same arguments, the reference's result is the kernel's. -/
theorem result_eq (c : Dev Cert.KernelIdeal.nD) (hs : Small (Cert.KernelIdeal.Grouped.word (Cert.KernelIdeal.Grouped.tbl m)))
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Grouped.result m' c = Cert.KernelIdeal.Grouped.result m c := by
  obtain ⟨h0, h1, h2, h3, h4⟩ := h
  have e : Cert.ReferenceIdeal.Grouped.result m' c
      = Cert.ReferenceIdeal.Grouped.out (Cert.KernelIdeal.Grouped.V m c Cert.KernelIdeal.main_arg0 : Vec Ideal Cert.KernelIdeal.S256x2816 .fp8e4m3)
          (Cert.KernelIdeal.Grouped.V m c Cert.KernelIdeal.main_arg1) (Cert.KernelIdeal.Grouped.V m c Cert.KernelIdeal.main_arg2)
          (Cert.KernelIdeal.Grouped.V m c Cert.KernelIdeal.main_arg3 : Vec Ideal Cert.KernelIdeal.S16x2816x2816 .fp8e4m3)
          (Cert.KernelIdeal.Grouped.V m c Cert.KernelIdeal.main_arg4) :=
    congr (congr (congr (congr (congrArg Cert.ReferenceIdeal.Grouped.out h0) h1) h2) h3) h4
  rw [e]
  have hk := Cert.KernelIdeal.Grouped.result_isProduct m hs c
  rw [word_eq m c] at hs hk
  have hr := Cert.ReferenceIdeal.Grouped.out_isProduct (Cert.KernelIdeal.Grouped.V m c Cert.KernelIdeal.main_arg0 : Vec Ideal Cert.KernelIdeal.S256x2816 .fp8e4m3)
    (Cert.KernelIdeal.Grouped.V m c Cert.KernelIdeal.main_arg1) (Cert.KernelIdeal.Grouped.V m c Cert.KernelIdeal.main_arg2)
    (Cert.KernelIdeal.Grouped.V m c Cert.KernelIdeal.main_arg3 : Vec Ideal Cert.KernelIdeal.S16x2816x2816 .fp8e4m3)
    (Cert.KernelIdeal.Grouped.V m c Cert.KernelIdeal.main_arg4) hs
  funext j
  have hj : j = ix2 (j 0) (j 1) := funext fun a => by fin_cases a <;> rfl
  rw [hj]
  exact IsProduct.unique hr hk (j 0) (j 1)

/-- The claim's equation: both programs end, with one result, their arguments as found. -/
theorem algebraic : Cert.algebraic_KernelIdeal_ReferenceIdeal_pre_sizes (hKernelIdeal := Cert.KernelIdeal.Gen.facts)
    (hReferenceIdeal := Cert.ReferenceIdeal.Gen.facts) (hPre_sizes := Cert.Pre_sizes.Gen.facts) := by
  intro m g m' g' hp hag
  refine ⟨Cert.KernelIdeal.Grouped.result m, Cert.KernelIdeal.Grouped.run_value m g, ?_⟩
  exact (θ_run _ _ _).mono (fun _ h c => ⟨(h c).1.trans (result_eq m m' c (small m hp) (hag c)), (h c).2⟩) (Cert.ReferenceIdeal.Grouped.run_value m' g')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes
public import proofs.«01_k».proof.Proof.Frame
public import proofs.«01_k».proof.Proof.Transfer
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sizes.Gen.facts,
  Cert.KernelIdeal.Grouped.quiescent_kernel,
  fun m ρ _ => Cert.KernelIdeal.Grouped.frame (F := Ideal) m ρ,
  fun m ρ _ => Cert.KernelIdeal.Grouped.frame (F := Ideal) m ρ,
  fun m ρ _ => Cert.ReferenceIdeal.Gen.frame m ρ,
  fun m ρ _ => Cert.ReferenceIdeal.Gen.frame m ρ,
  trivial,
  Cert.Equation.algebraic⟩

end Cert.Proof

end
